-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v93) = v0 c
          ∧ r.2.mem ((c.tc : Thread Cert.Reference2Ideal.nD Cert.Reference2Ideal.τ).loc Cert.Reference2Ideal.main_v95) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
-- ==== Pre_finite.lean ====
abbrev S2x8x8192x256 : Shape := ⟨4, ![2, 8, 8192, 256]⟩
abbrev S2x8192x256 : Shape := ⟨3, ![2, 8192, 256]⟩
abbrev S_ : Shape := ⟨0, ![]⟩

class Facts : Prop where
  bcast_S_S2x8x8192x256 : S_.BroadcastsInDim S2x8x8192x256 (![] : Fin 0 → Fin S2x8x8192x256.rank)
  reducesTo_S2x8x8192x256_S_d0_1_2_3 : S2x8x8192x256.ReducesTo [0, 1, 2, 3] S_
  h_S_ : 0 < S_.numel
  bcast_S_S2x8192x256 : S_.BroadcastsInDim S2x8192x256 (![] : Fin 0 → Fin S2x8192x256.rank)
  reducesTo_S2x8192x256_S_d0_1_2 : S2x8192x256.ReducesTo [0, 1, 2] S_

variable [Facts]

def fn {F : FTy → Type} [FloatOps F] (main_arg0 : FVec F S2x8x8192x256 .bf16) (main_arg1 : FVec F S2x8192x256 .bf16) : IVec S_ 1 :=
  let main_v0 : FVec F S2x8x8192x256 .bf16 := Host.absf main_arg0
  let main_cst : FVec F S_ .bf16 := constant S_ .bf16 0x7F80#16
  let main_v1 : FVec F S2x8x8192x256 .bf16 := broadcastInDim S2x8x8192x256 ![] bcast_S_S2x8x8192x256 main_cst
  let main_v2 : IVec S2x8x8192x256 1 := cmpf .olt main_v0 main_v1
  let main_c : IVec S_ 1 := constantI S_ 1 1#1
  let main_v3 : IVec S_ 1 := (fun x v => Host.reduce IntOp.andi x v reducesTo_S2x8x8192x256_S_d0_1_2_3 h_S_) main_v2 main_c
  let main_v4 : FVec F S2x8192x256 .bf16 := Host.absf main_arg1
  let main_cst_0 : FVec F S_ .bf16 := constant S_ .bf16 0x7F80#16
  let main_v5 : FVec F S2x8192x256 .bf16 := broadcastInDim S2x8192x256 ![] bcast_S_S2x8192x256 main_cst_0
  let main_v6 : IVec S2x8192x256 1 := cmpf .olt main_v4 main_v5
  let main_c_1 : IVec S_ 1 := constantI S_ 1 1#1
  let main_v7 : IVec S_ 1 := (fun x v => Host.reduce IntOp.andi x v reducesTo_S2x8192x256_S_d0_1_2 h_S_) main_v6 main_c_1
  let main_v8 : IVec S_ 1 := andi main_v3 main_v7
  main_v8
-- ==== Kernel.lean ====
abbrev S2x8x8192x256 : Shape := ⟨4, ![2, 8, 8192, 256]⟩
abbrev S2x8192x256 : Shape := ⟨3, ![2, 8192, 256]⟩
abbrev S272 : Shape := ⟨1, ![272]⟩
abbrev S2x8192x1024 : Shape := ⟨3, ![2, 8192, 1024]⟩
abbrev S1x8x256x256 : Shape := ⟨4, ![1, 8, 256, 256]⟩
abbrev S1 : Shape := ⟨1, ![1]⟩
abbrev S1x512x256 : Shape := ⟨3, ![1, 512, 256]⟩
abbrev S1x256x1024 : Shape := ⟨3, ![1, 256, 1024]⟩
abbrev S2048x1 : Shape := ⟨2, ![2048, 1]⟩
abbrev S2048x128 : Shape := ⟨2, ![2048, 128]⟩
abbrev S512x256 : Shape := ⟨2, ![512, 256]⟩
abbrev S8x256x256 : Shape := ⟨3, ![8, 256, 256]⟩
abbrev S2048x256 : Shape := ⟨2, ![2048, 256]⟩
abbrev S2048x512 : Shape := ⟨2, ![2048, 512]⟩
abbrev S2048 : Shape := ⟨1, ![2048]⟩
abbrev S512x128 : Shape := ⟨2, ![512, 128]⟩
abbrev S256x128 : Shape := ⟨2, ![256, 128]⟩
abbrev S1x256x128 : Shape := ⟨3, ![1, 256, 128]⟩

abbrev nBuf : Space → Nat
  | .hbm => 3
  | .vmem => 9
  | .smem => 2
  | _ => 0

abbrev bufTy : (tb : Table) → Fin (tcTables nBuf tb) → BufTy
  | .hbm, ⟨0, _⟩ => ⟨S2x8x8192x256, .bf16⟩
  | .hbm, ⟨1, _⟩ => ⟨S2x8192x256, .bf16⟩
  | .hbm, ⟨2, _⟩ => ⟨S2x8192x1024, .f32⟩
  | .local _ .vmem, ⟨0, _⟩ => ⟨S1x8x256x256, .bf16⟩
  | .local _ .vmem, ⟨1, _⟩ => ⟨S1x8x256x256, .bf16⟩
  | .local _ .vmem, ⟨2, _⟩ => ⟨S1x512x256, .bf16⟩
  | .local _ .vmem, ⟨3, _⟩ => ⟨S1x512x256, .bf16⟩
  | .local _ .vmem, ⟨4, _⟩ => ⟨S1x256x1024, .f32⟩
  | .local _ .vmem, ⟨5, _⟩ => ⟨S1x256x1024, .f32⟩
  | .local _ .vmem, ⟨6, _⟩ => ⟨S2048x1, .f32⟩
  | .local _ .vmem, ⟨7, _⟩ => ⟨S2048x1, .f32⟩
  | .local _ .vmem, ⟨8, _⟩ => ⟨S2048x128, .f32⟩
  | .local _ .smem, ⟨0, _⟩ => ⟨S272, .i32⟩
  | .local _ .smem, ⟨1, _⟩ => ⟨S272, .i32⟩
  | _, _ => ⟨S2x8x8192x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 272], ![false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_cond4 (v1 : BitVec 32) (v3 : BitVec 32) : BitVec 1 :=
  let c1_i32_4 : BitVec 32 := 1#32
  let v17 : BitVec 32 := Scalar.addi v3 c1_i32_4
  let c512_i32_5 : BitVec 32 := 512#32
  let v18 : BitVec 32 := Scalar.muli v17 c512_i32_5
  let c1_i32_6 : BitVec 32 := 1#32
  let v19 : BitVec 32 := Scalar.addi v1 c1_i32_6
  let c256_i32_7 : BitVec 32 := 256#32
  let v20 : BitVec 32 := Scalar.muli v19 c256_i32_7
  let v21 : BitVec 1 := Scalar.cmpi .sge v18 v20
  let v22 : BitVec 32 := Scalar.extui v21
  let c0_i32_8 : BitVec 32 := 0#32
  let v23 : BitVec 1 := Scalar.cmpi .ne v22 c0_i32_8
  v23

def cc0_transform_0 (k0_off1_inb : ∀ i : grid0.Coords, ∀ a, (k0_off1 i) a + S1.size a ≤ S272.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S272) ![v0.toNat] S1.size (k0_off1_inb i)) numel1_S1
  let c0_i32 : BitVec 32 := 0#32
  let c0_i32_0 : BitVec 32 := 0#32
  let c0_i32_1 : BitVec 32 := 0#32
  ![arg0.toNat, c0_i32.toNat, v1.toNat, c0_i32_0.toNat]

def cc0_transform_1 (k0_off1_inb : ∀ i : grid0.Coords, ∀ a, (k0_off1 i) a + S1.size a ≤ S272.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S272) ![v0.toNat] S1.size (k0_off1_inb i)) numel1_S1
  let c0_i32 : BitVec 32 := 0#32
  let c0_i32_0 : BitVec 32 := 0#32
  ![arg0.toNat, v1.toNat, c0_i32.toNat]

def cc0_transform_2 (k0_off1_inb : ∀ i : grid0.Coords, ∀ a, (k0_off1 i) a + S1.size a ≤ S272.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S272) ![v0.toNat] S1.size (k0_off1_inb i)) numel1_S1
  let c0_i32 : BitVec 32 := 0#32
  let c0_i32_0 : BitVec 32 := 0#32
  ![arg0.toNat, v1.toNat, c0_i32.toNat]

abbrev stage0_0 : Fin 2 → Memref sig .tc .vmem S1x8x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceIdeal.lean ====
abbrev S2x8x8192x256 : Shape := ⟨4, ![2, 8, 8192, 256]⟩
abbrev S2x8192x256 : Shape := ⟨3, ![2, 8192, 256]⟩
abbrev S2x8x8192x8192 : Shape := ⟨4, ![2, 8, 8192, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S_ : Shape := ⟨0, ![]⟩
abbrev S2x8x8192 : Shape := ⟨3, ![2, 8, 8192]⟩
abbrev S2x8x8192x1 : Shape := ⟨4, ![2, 8, 8192, 1]⟩
abbrev S2x8192x128 : Shape := ⟨3, ![2, 8192, 128]⟩
abbrev S2x128x8x8192 : Shape := ⟨4, ![2, 128, 8, 8192]⟩
abbrev S2x8192x8x128 : Shape := ⟨4, ![2, 8192, 8, 128]⟩
abbrev S2x8192x1024 : Shape := ⟨3, ![2, 8192, 1024]⟩

abbrev nBuf : Space → Nat
  | .hbm => 33
  | .vmem => 0
  | .smem => 0
  | _ => 0

abbrev bufTy : (tb : Table) → Fin (tcTables nBuf tb) → BufTy
  | .hbm, ⟨0, _⟩ => ⟨S2x8x8192x256, .bf16⟩
  | .hbm, ⟨1, _⟩ => ⟨S2x8192x256, .bf16⟩
  | .hbm, ⟨2, _⟩ => ⟨S2x8x8192x8192, .f32⟩
  | .hbm, ⟨3, _⟩ => ⟨S8192, .i32⟩
  | .hbm, ⟨4, _⟩ => ⟨S1x8192, .i32⟩
  | .hbm, ⟨5, _⟩ => ⟨S8192x1, .i32⟩
  | .hbm, ⟨6, _⟩ => ⟨S8192x8192, .i32⟩
  | .hbm, ⟨7, _⟩ => ⟨S8192x8192, .i32⟩
  | .hbm, ⟨8, _⟩ => ⟨S8192x8192, .i1⟩
  | .hbm, ⟨9, _⟩ => ⟨S_, .f32⟩
  | .hbm, ⟨10, _⟩ => ⟨S_, .f32⟩
  | .hbm, ⟨11, _⟩ => ⟨S2x8x8192x8192, .i1⟩
  | .hbm, ⟨12, _⟩ => ⟨S2x8x8192x8192, .f32⟩
  | .hbm, ⟨13, _⟩ => ⟨S2x8x8192x8192, .f32⟩
  | .hbm, ⟨14, _⟩ => ⟨S_, .f32⟩
  | .hbm, ⟨15, _⟩ => ⟨S2x8x8192, .f32⟩
  | .hbm, ⟨16, _⟩ => ⟨S_, .f32⟩
  | .hbm, ⟨17, _⟩ => ⟨S2x8x8192, .f32⟩
  | .hbm, ⟨18, _⟩ => ⟨S2x8x8192, .f32⟩
  | .hbm, ⟨19, _⟩ => ⟨S2x8x8192x1, .f32⟩
  | .hbm, ⟨20, _⟩ => ⟨S2x8x8192x8192, .f32⟩
  | .hbm, ⟨21, _⟩ => ⟨S2x8x8192x8192, .f32⟩
  | .hbm, ⟨22, _⟩ => ⟨S2x8x8192x8192, .f32⟩
  | .hbm, ⟨23, _⟩ => ⟨S_, .f32⟩
  | .hbm, ⟨24, _⟩ => ⟨S2x8x8192, .f32⟩
  | .hbm, ⟨25, _⟩ => ⟨S2x8x8192x1, .f32⟩
  | .hbm, ⟨26, _⟩ => ⟨S2x8x8192x8192, .f32⟩
  | .hbm, ⟨27, _⟩ => ⟨S2x8x8192x8192, .f32⟩
  | .hbm, ⟨28, _⟩ => ⟨S2x8x8192x8192, .bf16⟩
  | .hbm, ⟨29, _⟩ => ⟨S2x8192x128, .bf16⟩
  | .hbm, ⟨30, _⟩ => ⟨S2x128x8x8192, .f32⟩
  | .hbm, ⟨31, _⟩ => ⟨S2x8192x8x128, .f32⟩
  | .hbm, ⟨32, _⟩ => ⟨S2x8192x1024, .f32⟩
  | _, _ => ⟨S2x8x8192x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== Kernel2.lean ====
abbrev S2x8192x1024 : Shape := ⟨3, ![2, 8192, 1024]⟩
abbrev S1024x1024 : Shape := ⟨2, ![1024, 1024]⟩
abbrev S1x1024 : Shape := ⟨2, ![1, 1024]⟩
abbrev S1024x5632 : Shape := ⟨2, ![1024, 5632]⟩
abbrev S3x5632 : Shape := ⟨2, ![3, 5632]⟩
abbrev S1x5632 : Shape := ⟨2, ![1, 5632]⟩
abbrev S2816x1024 : Shape := ⟨2, ![2816, 1024]⟩
abbrev S2x16x8x5632 : Shape := ⟨4, ![2, 16, 8, 5632]⟩
abbrev S1x512x1024 : Shape := ⟨3, ![1, 512, 1024]⟩
abbrev S1x1x8x5632 : Shape := ⟨4, ![1, 1, 8, 5632]⟩
abbrev S8x5632 : Shape := ⟨2, ![8, 5632]⟩
abbrev S512x1024 : Shape := ⟨2, ![512, 1024]⟩
abbrev S512 : Shape := ⟨1, ![512]⟩
abbrev S512x1 : Shape := ⟨2, ![512, 1]⟩
abbrev S1024x1408 : Shape := ⟨2, ![1024, 1408]⟩
abbrev S512x1408 : Shape := ⟨2, ![512, 1408]⟩
abbrev S8x1408 : Shape := ⟨2, ![8, 1408]⟩
abbrev S520x1408 : Shape := ⟨2, ![520, 1408]⟩
abbrev S1x1x8x1408 : Shape := ⟨4, ![1, 1, 8, 1408]⟩
abbrev S3x1408 : Shape := ⟨2, ![3, 1408]⟩
abbrev S1x1408 : Shape := ⟨2, ![1, 1408]⟩
abbrev S1408x1024 : Shape := ⟨2, ![1408, 1024]⟩

abbrev nBuf : Space → Nat
  | .hbm => 13
  | .vmem => 18
  | .smem => 0
  | _ => 0

abbrev bufTy : (tb : Table) → Fin (tcTables nBuf tb) → BufTy
  | .hbm, ⟨0, _⟩ => ⟨S2x8192x1024, .f32⟩
  | .hbm, ⟨1, _⟩ => ⟨S2x8192x1024, .f32⟩
  | .hbm, ⟨2, _⟩ => ⟨S1024x1024, .bf16⟩
  | .hbm, ⟨3, _⟩ => ⟨S1x1024, .f32⟩
  | .hbm, ⟨4, _⟩ => ⟨S1x1024, .f32⟩
  | .hbm, ⟨5, _⟩ => ⟨S1024x5632, .bf16⟩
  | .hbm, ⟨6, _⟩ => ⟨S3x5632, .f32⟩
  | .hbm, ⟨7, _⟩ => ⟨S1x5632, .f32⟩
  | .hbm, ⟨8, _⟩ => ⟨S2816x1024, .bf16⟩
  | .hbm, ⟨9, _⟩ => ⟨S1x1024, .f32⟩
  | .hbm, ⟨10, _⟩ => ⟨S1x1024, .f32⟩
  | .hbm, ⟨11, _⟩ => ⟨S2x8192x1024, .f32⟩
  | .hbm, ⟨12, _⟩ => ⟨S2x16x8x5632, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1024x1024, .bf16⟩
  | .local _ .vmem, ⟨5, _⟩ => ⟨S1x1024, .f32⟩
  | .local _ .vmem, ⟨6, _⟩ => ⟨S1x1024, .f32⟩
  | .local _ .vmem, ⟨7, _⟩ => ⟨S1024x5632, .bf16⟩
  | .local _ .vmem, ⟨8, _⟩ => ⟨S3x5632, .f32⟩
  | .local _ .vmem, ⟨9, _⟩ => ⟨S1x5632, .f32⟩
  | .local _ .vmem, ⟨10, _⟩ => ⟨S2816x1024, .bf16⟩
  | .local _ .vmem, ⟨11, _⟩ => ⟨S1x1024, .f32⟩
  | .local _ .vmem, ⟨12, _⟩ => ⟨S1x1024, .f32⟩
  | .local _ .vmem, ⟨13, _⟩ => ⟨S1x512x1024, .f32⟩
  | .local _ .vmem, ⟨14, _⟩ => ⟨S1x512x1024, .f32⟩
  | .local _ .vmem, ⟨15, _⟩ => ⟨S1x1x8x5632, .f32⟩
  | .local _ .vmem, ⟨16, _⟩ => ⟨S1x1x8x5632, .f32⟩
  | .local _ .vmem, ⟨17, _⟩ => ⟨S8x5632, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14
abbrev cc0_sem12_0 : DmaSem sig := 15
abbrev cc0_sem12_1 : DmaSem sig := 16

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S3x5632 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x5632 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1x8x5632 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Reference2Ideal.lean ====
abbrev S2x8192x1024 : Shape := ⟨3, ![2, 8192, 1024]⟩
abbrev S1024x1024 : Shape := ⟨2, ![1024, 1024]⟩
abbrev S1x1024 : Shape := ⟨2, ![1, 1024]⟩
abbrev S1024x5632 : Shape := ⟨2, ![1024, 5632]⟩
abbrev S3x5632 : Shape := ⟨2, ![3, 5632]⟩
abbrev S1x5632 : Shape := ⟨2, ![1, 5632]⟩
abbrev S2816x1024 : Shape := ⟨2, ![2816, 1024]⟩
abbrev S_ : Shape := ⟨0, ![]⟩
abbrev S1024 : Shape := ⟨1, ![1024]⟩
abbrev S2x8192 : Shape := ⟨2, ![2, 8192]⟩
abbrev S2x8192x1 : Shape := ⟨3, ![2, 8192, 1]⟩
abbrev S1x1x1024 : Shape := ⟨3, ![1, 1, 1024]⟩
abbrev S2x8192x5632 : Shape := ⟨3, ![2, 8192, 5632]⟩
abbrev S2x2x5632 : Shape := ⟨3, ![2, 2, 5632]⟩
abbrev S2x8194x5632 : Shape := ⟨3, ![2, 8194, 5632]⟩
abbrev S5632 : Shape := ⟨1, ![5632]⟩
abbrev S1x1x5632 : Shape := ⟨3, ![1, 1, 5632]⟩
abbrev S2x8192x2816 : Shape := ⟨3, ![2, 8192, 2816]⟩
abbrev S2x16x512x5632 : Shape := ⟨4, ![2, 16, 512, 5632]⟩
abbrev S2x16x8x5632 : Shape := ⟨4, ![2, 16, 8, 5632]⟩

abbrev nBuf : Space → Nat
  | .hbm => 128
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x8192x1024, .f32⟩
  | .hbm, ⟨2, _⟩ => ⟨S1024x1024, .bf16⟩
  | .hbm, ⟨3, _⟩ => ⟨S1x1024, .f32⟩
  | .hbm, ⟨4, _⟩ => ⟨S1x1024, .f32⟩
  | .hbm, ⟨5, _⟩ => ⟨S1024x5632, .bf16⟩
  | .hbm, ⟨6, _⟩ => ⟨S3x5632, .f32⟩
  | .hbm, ⟨7, _⟩ => ⟨S1x5632, .f32⟩
  | .hbm, ⟨8, _⟩ => ⟨S2816x1024, .bf16⟩
  | .hbm, ⟨9, _⟩ => ⟨S1x1024, .f32⟩
  | .hbm, ⟨10, _⟩ => ⟨S1x1024, .f32⟩
  | .hbm, ⟨11, _⟩ => ⟨S1024x1024, .f32⟩
  | .hbm, ⟨12, _⟩ => ⟨S2x8192x1024, .f32⟩
  | .hbm, ⟨13, _⟩ => ⟨S_, .f32⟩
  | .hbm, ⟨14, _⟩ => ⟨S2x8192x1024, .f32⟩
  | .hbm, ⟨15, _⟩ => ⟨S2x8192x1024, .f32⟩
  | .hbm, ⟨16, _⟩ => ⟨S2x8192x1024, .f32⟩
  | .hbm, ⟨17, _⟩ => ⟨S1024, .f32⟩
  | .hbm, ⟨18, _⟩ => ⟨S1024, .f32⟩
  | .hbm, ⟨19, _⟩ => ⟨S_, .f32⟩
  | .hbm, ⟨20, _⟩ => ⟨S2x8192, .f32⟩
  | .hbm, ⟨21, _⟩ => ⟨S2x8192x1, .f32⟩
  | .hbm, ⟨22, _⟩ => ⟨S_, .f32⟩
  | .hbm, ⟨23, _⟩ => ⟨S2x8192x1, .f32⟩
  | .hbm, ⟨24, _⟩ => ⟨S2x8192x1, .f32⟩
  | .hbm, ⟨25, _⟩ => ⟨S2x8192x1024, .f32⟩
  | .hbm, ⟨26, _⟩ => ⟨S2x8192x1024, .f32⟩
  | .hbm, ⟨27, _⟩ => ⟨S2x8192x1024, .f32⟩
  | .hbm, ⟨28, _⟩ => ⟨S_, .f32⟩
  | .hbm, ⟨29, _⟩ => ⟨S2x8192, .f32⟩
  | .hbm, ⟨30, _⟩ => ⟨S2x8192x1, .f32⟩
  | .hbm, ⟨31, _⟩ => ⟨S_, .f32⟩
  | .hbm, ⟨32, _⟩ => ⟨S2x8192x1, .f32⟩
  | .hbm, ⟨33, _⟩ => ⟨S2x8192x1, .f32⟩
  | .hbm, ⟨34, _⟩ => ⟨S2x8192x1024, .f32⟩
  | .hbm, ⟨35, _⟩ => ⟨S2x8192x1024, .f32⟩
  | .hbm, ⟨36, _⟩ => ⟨S_, .f32⟩
  | .hbm, ⟨37, _⟩ => ⟨S2x8192x1, .f32⟩
  | .hbm, ⟨38, _⟩ => ⟨S2x8192x1, .f32⟩
  | .hbm, ⟨39, _⟩ => ⟨S2x8192x1, .f32⟩
  | .hbm, ⟨40, _⟩ => ⟨S2x8192x1024, .f32⟩
  | .hbm, ⟨41, _⟩ => ⟨S2x8192x1024, .f32⟩
  | .hbm, ⟨42, _⟩ => ⟨S1x1x1024, .f32⟩
  | .hbm, ⟨43, _⟩ => ⟨S2x8192x1024, .f32⟩
  | .hbm, ⟨44, _⟩ => ⟨S2x8192x1024, .f32⟩
  | .hbm, ⟨45, _⟩ => ⟨S1x1x1024, .f32⟩
  | .hbm, ⟨46, _⟩ => ⟨S2x8192x1024, .f32⟩
  | .hbm, ⟨47, _⟩ => ⟨S2x8192x1024, .f32⟩
  | .hbm, ⟨48, _⟩ => ⟨S1024x5632, .f32⟩
  | .hbm, ⟨49, _⟩ => ⟨S2x8192x5632, .f32⟩
  | .hbm, ⟨50, _⟩ => ⟨S_, .f32⟩
  | .hbm, ⟨51, _⟩ => ⟨S2x2x5632, .f32⟩
  | .hbm, ⟨52, _⟩ => ⟨S2x8194x5632, .f32⟩
  | .hbm, ⟨53, _⟩ => ⟨S5632, .f32⟩
  | .hbm, ⟨54, _⟩ => ⟨S1x5632, .f32⟩
  | .hbm, ⟨55, _⟩ => ⟨S5632, .f32⟩
  | .hbm, ⟨56, _⟩ => ⟨S2x8192x5632, .f32⟩
  | .hbm, ⟨57, _⟩ => ⟨S1x1x5632, .f32⟩
  | .hbm, ⟨58, _⟩ => ⟨S2x8192x5632, .f32⟩
  | .hbm, ⟨59, _⟩ => ⟨S2x8192x5632, .f32⟩
  | .hbm, ⟨60, _⟩ => ⟨S1x5632, .f32⟩
  | .hbm, ⟨61, _⟩ => ⟨S5632, .f32⟩
  | .hbm, ⟨62, _⟩ => ⟨S2x8192x5632, .f32⟩
  | .hbm, ⟨63, _⟩ => ⟨S1x1x5632, .f32⟩
  | .hbm, ⟨64, _⟩ => ⟨S2x8192x5632, .f32⟩
  | .hbm, ⟨65, _⟩ => ⟨S2x8192x5632, .f32⟩
  | .hbm, ⟨66, _⟩ => ⟨S1x5632, .f32⟩
  | .hbm, ⟨67, _⟩ => ⟨S5632, .f32⟩
  | .hbm, ⟨68, _⟩ => ⟨S2x8192x5632, .f32⟩
  | .hbm, ⟨69, _⟩ => ⟨S1x1x5632, .f32⟩
  | .hbm, ⟨70, _⟩ => ⟨S2x8192x5632, .f32⟩
  | .hbm, ⟨71, _⟩ => ⟨S2x8192x5632, .f32⟩
  | .hbm, ⟨72, _⟩ => ⟨S2x8192x5632, .f32⟩
  | .hbm, ⟨73, _⟩ => ⟨S2x8192x5632, .f32⟩
  | .hbm, ⟨74, _⟩ => ⟨S1x1x5632, .f32⟩
  | .hbm, ⟨75, _⟩ => ⟨S2x8192x5632, .f32⟩
  | .hbm, ⟨76, _⟩ => ⟨S2x8192x5632, .f32⟩
  | .hbm, ⟨77, _⟩ => ⟨S2x8192x2816, .f32⟩
  | .hbm, ⟨78, _⟩ => ⟨S2x8192x2816, .f32⟩
  | .hbm, ⟨79, _⟩ => ⟨S2x8192x2816, .f32⟩
  | .hbm, ⟨80, _⟩ => ⟨S2x8192x2816, .f32⟩
  | .hbm, ⟨81, _⟩ => ⟨S_, .f32⟩
  | .hbm, ⟨82, _⟩ => ⟨S2x8192x2816, .f32⟩
  | .hbm, ⟨83, _⟩ => ⟨S2x8192x2816, .f32⟩
  | .hbm, ⟨84, _⟩ => ⟨S_, .f32⟩
  | .hbm, ⟨85, _⟩ => ⟨S2x8192x2816, .f32⟩
  | .hbm, ⟨86, _⟩ => ⟨S2x8192x2816, .f32⟩
  | .hbm, ⟨87, _⟩ => ⟨S2x8192x2816, .f32⟩
  | .hbm, ⟨88, _⟩ => ⟨S2x8192x2816, .f32⟩
  | .hbm, ⟨89, _⟩ => ⟨S2816x1024, .f32⟩
  | .hbm, ⟨90, _⟩ => ⟨S2x8192x1024, .f32⟩
  | .hbm, ⟨91, _⟩ => ⟨S_, .f32⟩
  | .hbm, ⟨92, _⟩ => ⟨S2x8192x1024, .f32⟩
  | .hbm, ⟨93, _⟩ => ⟨S2x8192x1024, .f32⟩
  | .hbm, ⟨94, _⟩ => ⟨S2x8192x1024, .f32⟩
  | .hbm, ⟨95, _⟩ => ⟨S1024, .f32⟩
  | .hbm, ⟨96, _⟩ => ⟨S1024, .f32⟩
  | .hbm, ⟨97, _⟩ => ⟨S_, .f32⟩
  | .hbm, ⟨98, _⟩ => ⟨S2x8192, .f32⟩
  | .hbm, ⟨99, _⟩ => ⟨S2x8192x1, .f32⟩
  | .hbm, ⟨100, _⟩ => ⟨S_, .f32⟩
  | .hbm, ⟨101, _⟩ => ⟨S2x8192x1, .f32⟩
  | .hbm, ⟨102, _⟩ => ⟨S2x8192x1, .f32⟩
  | .hbm, ⟨103, _⟩ => ⟨S2x8192x1024, .f32⟩
  | .hbm, ⟨104, _⟩ => ⟨S2x8192x1024, .f32⟩
  | .hbm, ⟨105, _⟩ => ⟨S2x8192x1024, .f32⟩
  | .hbm, ⟨106, _⟩ => ⟨S_, .f32⟩
  | .hbm, ⟨107, _⟩ => ⟨S2x8192, .f32⟩
  | .hbm, ⟨108, _⟩ => ⟨S2x8192x1, .f32⟩
  | .hbm, ⟨109, _⟩ => ⟨S_, .f32⟩
  | .hbm, ⟨110, _⟩ => ⟨S2x8192x1, .f32⟩
  | .hbm, ⟨111, _⟩ => ⟨S2x8192x1, .f32⟩
  | .hbm, ⟨112, _⟩ => ⟨S2x8192x1024, .f32⟩
  | .hbm, ⟨113, _⟩ => ⟨S2x8192x1024, .f32⟩
  | .hbm, ⟨114, _⟩ => ⟨S_, .f32⟩
  | .hbm, ⟨115, _⟩ => ⟨S2x8192x1, .f32⟩
  | .hbm, ⟨116, _⟩ => ⟨S2x8192x1, .f32⟩
  | .hbm, ⟨117, _⟩ => ⟨S2x8192x1, .f32⟩
  | .hbm, ⟨118, _⟩ => ⟨S2x8192x1024, .f32⟩
  | .hbm, ⟨119, _⟩ => ⟨S2x8192x1024, .f32⟩
  | .hbm, ⟨120, _⟩ => ⟨S1x1x1024, .f32⟩
  | .hbm, ⟨121, _⟩ => ⟨S2x8192x1024, .f32⟩
  | .hbm, ⟨122, _⟩ => ⟨S2x8192x1024, .f32⟩
  | .hbm, ⟨123, _⟩ => ⟨S1x1x1024, .f32⟩
  | .hbm, ⟨124, _⟩ => ⟨S2x8192x1024, .f32⟩
  | .hbm, ⟨125, _⟩ => ⟨S2x8192x1024, .f32⟩
  | .hbm, ⟨126, _⟩ => ⟨S2x16x512x5632, .f32⟩
  | .hbm, ⟨127, _⟩ => ⟨S2x16x8x5632, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_0 : Ref sig .tc := ⟨.hbm, 19, rfl⟩
abbrev main_v7 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_v14 : Ref sig .tc := ⟨.hbm, 29, rfl⟩
abbrev main_v15 : Ref sig .tc := ⟨.hbm, 30, rfl⟩
abbrev main_cst_3 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_5 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_call0_v0 : Ref sig .tc := ⟨.hbm, 79, rfl⟩
abbrev main_call0_v1 : Ref sig .tc := ⟨.hbm, 80, rfl⟩
abbrev main_call0_cst : Ref sig .tc := ⟨.hbm, 81, rfl⟩
abbrev main_call0_v2 : Ref sig .tc := ⟨.hbm, 82, rfl⟩
abbrev main_call0_v3 : Ref sig .tc := ⟨.hbm, 83, rfl⟩
abbrev main_call0_cst_0 : Ref sig .tc := ⟨.hbm, 84, rfl⟩
abbrev main_call0_v4 : Ref sig .tc := ⟨.hbm, 85, rfl⟩
abbrev main_call0_v5 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_cst_6 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_cst_7 : Ref sig .tc := ⟨.hbm, 97, rfl⟩
abbrev main_v70 : Ref sig .tc := ⟨.hbm, 98, rfl⟩
abbrev main_v71 : Ref sig .tc := ⟨.hbm, 99, rfl⟩
abbrev main_cst_8 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_cst_9 : Ref sig .tc := ⟨.hbm, 106, rfl⟩
abbrev main_v77 : Ref sig .tc := ⟨.hbm, 107, rfl⟩
abbrev main_v78 : Ref sig .tc := ⟨.hbm, 108, rfl⟩
abbrev main_cst_10 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_cst_11 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩

abbrev nD : Nat := 1
abbrev τ : Topo := Topo.v7x

variable {F : FTy → Type} [FloatOps F]
-- ==== Proof.Body.lean ====
/-
  One grid point of the attention kernel, on the vectors it reads and leaves.

  The kernel keeps three scratch vectors between points: the running row maximum, the running row sum of exponentials
  and the running weighted sum of values (`St`). A point first resets them (when its key block is the first), then
  takes one key block in, masked (`stepMasked`, a block crossing the diagonal) or not (`stepPlain`), and on the last key
  block of a query block writes the quotient out (`outBlk`). `run_A` … `run_D` are the four ways through the body.
-/
module

public import proofs.«01_k».proof.Proof.Gen.KernelIdeal.Skeleton
public import proofs.«01_k».proof.Proof.Gen.KernelIdeal
public import proofs.«01_k».proof.Proof.Gen.KernelIdeal.Launch
public import Idealize.ShloMosaic.Lib.Pipeline.Kit
public import Idealize.ShloMosaic.Lib.Pipeline.TableIdle
public import Idealize.ShloMosaic.Lib.Pipeline.FrameBody
public import Idealize.ShloMosaic.Lib.Pipeline.Value
public import Idealize.ShloMosaic.Lib.Writes
public import Idealize.ShloMosaic.Lib.WritesUnit
public import Idealize.ShloMosaic.Lib.VecWindow
public import Idealize.ShloMosaic.Lib.Ring
public import Idealize.ShloMosaic.Lib.Exec
public import Idealize.ShloMosaic.Lib.Affine
public import Idealize.ShloMosaic.Lib.Tactic
public import Idealize.ShloMosaic.Adequacy
public import Idealize.ShloMosaic.Init

@[expose] public section

set_option maxRecDepth 16384
set_option Elab.async false

noncomputable section

namespace Cert.KernelIdeal.Mla

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The two tables and the three scratch vectors, whole. -/
abbrev tbQ : Memref sig .tc .smem S272 .i32 := Memref.whole main_c
abbrev tbK : Memref sig .tc .smem S272 .i32 := Memref.whole main_c_0
abbrev scM : Memref sig .tc .vmem S2048x1 .f32 := Memref.whole cc0_scratch0
abbrev scL : Memref sig .tc .vmem S2048x1 .f32 := Memref.whole cc0_scratch1
abbrev scA : Memref sig .tc .vmem S2048x128 .f32 := Memref.whole cc0_scratch2

/-- What the scratch vectors hold: row maximum, row sum, weighted sum. -/
structure St (F : FTy → Type) [FloatOps F] where
  m : Vec F S2048x1 .f32
  l : Vec F S2048x1 .f32
  a : Vec F S2048x128 .f32

/-- The reset. -/
def St.init : St F := ⟨k0_pay1, k0_pay2, k0_pay3⟩

/-- A key block crossing the diagonal taken in. -/
def stepMasked (v1 v3 : Elt F .i32) (k : Vec F S1x512x256 .bf16) (q : Vec F S1x8x256x256 .bf16) (s : St F) : St F where
  m := k0_pay7 (k0_pay13 v1 v3 k q s.m)
  l := k0_pay5 (k0_pay12 v1 v3 k q) (k0_pay14 v1 v3 k q s.m) (k0_pay15 v1 v3 k q s.m) s.l
  a := k0_pay6 (k0_pay11 k) (k0_pay12 v1 v3 k q) (k0_pay14 v1 v3 k q s.m) (k0_pay15 v1 v3 k q s.m) s.a

/-- A key block below the diagonal taken in. -/
def stepPlain (k : Vec F S1x512x256 .bf16) (q : Vec F S1x8x256x256 .bf16) (s : St F) : St F where
  m := k0_pay8 (k0_pay18 k q s.m)
  l := k0_pay21 k q s.m s.l
  a := k0_pay22 k q s.m s.a

/-- The eight stores of a query block's result, last first. -/
def outPieces (a : Vec F S2048x128 .f32) (l : Vec F S2048x1 .f32) : List (View.Piece (Elt F) S1x256x1024 .f32) :=
  [⟨Rect.unit (s := S1x256x1024) ![0, 0, 896] S1x256x128.size inb_S1x256x1024_S1x256x128_0_0_896, k0_pay10 (k0_pay23 a l)⟩,
   ⟨Rect.unit (s := S1x256x1024) ![0, 0, 768] S1x256x128.size inb_S1x256x1024_S1x256x128_0_0_768, k0_pay9 (k0_pay30 a l)⟩,
   ⟨Rect.unit (s := S1x256x1024) ![0, 0, 640] S1x256x128.size inb_S1x256x1024_S1x256x128_0_0_640, k0_pay29 a l⟩,
   ⟨Rect.unit (s := S1x256x1024) ![0, 0, 512] S1x256x128.size inb_S1x256x1024_S1x256x128_0_0_512, k0_pay28 a l⟩,
   ⟨Rect.unit (s := S1x256x1024) ![0, 0, 384] S1x256x128.size inb_S1x256x1024_S1x256x128_0_0_384, k0_pay27 a l⟩,
   ⟨Rect.unit (s := S1x256x1024) ![0, 0, 256] S1x256x128.size inb_S1x256x1024_S1x256x128_0_0_256, k0_pay26 a l⟩,
   ⟨Rect.unit (s := S1x256x1024) ![0, 0, 128] S1x256x128.size inb_S1x256x1024_S1x256x128_0_0_128, k0_pay25 a l⟩,
   ⟨Rect.unit (s := S1x256x1024) ![0, 0, 0] S1x256x128.size inb_S1x256x1024_S1x256x128_0_0_0, k0_pay24 a l⟩]

/-- They tile the block. -/
theorem outPieces_cover (a : Vec F S2048x128 .f32) (l : Vec F S2048x1 .f32) (y : S1x256x1024.Idx) :
    ∃ pc ∈ outPieces a l, y ∈ pc.1.set :=
  View.cover_of_tiledL (outPieces a l) S1x256x128.size (by sl_kernel_rfl) y

/-- A query block's result. -/
def outBlk (s : St F) : Vec F S1x256x1024 .f32 := View.canon (outPieces s.a s.l)

/-! ## The words a point reads, and what it decides by them -/

/-- The word of a table a point reads. -/
abbrev word (tb : Memref sig .tc .smem S272 .i32) (T : tb.view.ty.Contents (Elt F)) (i : grid0.Coords) : Elt F .i32 :=
  View.readAt (Elt F) tb.view (Rect.unit (s := S272) (k0_off1 i) S1.size (k0_off1_inb i)).toLoadRect T
    (Shape.Idx.first (numel1_S1.symm ▸ Nat.one_pos))

/-- The key block is the first. -/
abbrev isFirst (v3 : BitVec 32) : Prop := Scalar.cmpi .ne (Scalar.extui (Scalar.cmpi .eq v3 0#32)) 0#32 = 1#1

/-- The key block crosses the diagonal of the query block. -/
abbrev crosses (v1 v3 : BitVec 32) : Prop :=
  Scalar.cmpi .ne (Scalar.extui (Scalar.cmpi .sgt (Scalar.subi (Scalar.addi (Scalar.muli v3 512#32) 512#32) 1#32) (Scalar.muli v1 256#32))) 0#32 = 1#1

/-- The body's own negation of `crosses`. -/
abbrev below (v1 v3 : BitVec 32) : Prop :=
  Scalar.cmpi .ne (Scalar.extui (Scalar.xori (Scalar.cmpi .sgt (Scalar.subi (Scalar.addi (Scalar.muli v3 512#32) 512#32) 1#32) (Scalar.muli v1 256#32)) 1#1)) 0#32 = 1#1

/-- The body at a point, on whole staging buffers holding the query block `x0` and the key block `x1` and on the
    tables `T0`, `T1`: from `P` (the output's staging buffer) and `Q` (the scratch) it runs and leaves `O` and the
    scratch vectors `s`, the rest as it was. -/
def RunsTo (c : Dev nD) (i : grid0.Coords) (arg4 : Memref sig .tc .vmem S1x8x256x256 .bf16) (harg4 : arg4.IsWhole) (arg5 : Memref sig .tc .vmem S1x512x256 .bf16) (harg5 : arg5.IsWhole) (arg6 : Memref sig .tc .vmem S1x256x1024 .f32) (harg6 : arg6.IsWhole)
    (T0 T1 : S272.Idx → BitVec 32) (x0 : Vec F S1x8x256x256 .bf16) (x1 : Vec F S1x512x256 .bf16)
    (P Q O : sProp 𝕄) (s : St F) : Prop :=
  ∀ K : PUnit → sProp 𝕄,
    iprop(owns (c : Thread nD τ) arg4 fullShare x0
          ∗ owns (c : Thread nD τ) arg5 fullShare x1
          ∗ (tbQ.view.loc (c : Thread nD τ) ↦{fullShare.right} T0)
          ∗ (tbK.view.loc (c : Thread nD τ) ↦{fullShare.right} T1)
          ∗ P ∗ Q
          ∗ (iprop(owns (c : Thread nD τ) arg4 fullShare x0
              ∗ owns (c : Thread nD τ) arg5 fullShare x1
              ∗ (tbQ.view.loc (c : Thread nD τ) ↦{fullShare.right} T0)
              ∗ (tbK.view.loc (c : Thread nD τ) ↦{fullShare.right} T1)
              ∗ O
              ∗ owns (c : Thread nD τ) scM fullShare s.m
              ∗ owns (c : Thread nD τ) scL fullShare s.l
              ∗ owns (c : Thread nD τ) scA fullShare s.a) -∗ K ⟨⟩))
      ⊢ wp frame (wpE (defs₀ (F := F)) Variants.none c none) Set.univ (cc0_mla_flash i tbQ (Memref.isWhole_whole _) tbK (Memref.isWhole_whole _) arg4 harg4 arg5 harg5 arg6 harg6 scM (Memref.isWhole_whole _) scL (Memref.isWhole_whole _) scA (Memref.isWhole_whole _)) K

section
variable (c : Dev nD) (i : grid0.Coords) (arg4 : Memref sig .tc .vmem S1x8x256x256 .bf16) (harg4 : arg4.IsWhole) (arg5 : Memref sig .tc .vmem S1x512x256 .bf16) (harg5 : arg5.IsWhole) (arg6 : Memref sig .tc .vmem S1x256x1024 .f32) (harg6 : arg6.IsWhole)
    (T0 T1 : S272.Idx → BitVec 32) (x0 : Vec F S1x8x256x256 .bf16) (x1 : Vec F S1x512x256 .bf16)

set_option backward.proofsInPublic true in
set_option maxHeartbeats 8000000 in
/-- First key block, crossing the diagonal: result written. -/
theorem run_A (h0 : isFirst (word (F := F) tbK T1 i)) (h1 : crosses (word (F := F) tbQ T0 i) (word (F := F) tbK T1 i))
    (h2 : ¬ below (word (F := F) tbQ T0 i) (word (F := F) tbK T1 i)) (h4 : (k0_cond4 (word (F := F) tbQ T0 i) (word (F := F) tbK T1 i) = 1#1)) :
    RunsTo c i arg4 harg4 arg5 harg5 arg6 harg6 T0 T1 x0 x1 iprop(∃ d, owns (c : Thread nD τ) arg6 fullShare d) iprop((∃ d, owns (c : Thread nD τ) scM fullShare d) ∗ (∃ d, owns (c : Thread nD τ) scL fullShare d) ∗ (∃ d, owns (c : Thread nD τ) scA fullShare d)) (owns (c : Thread nD τ) arg6 fullShare (outBlk (stepMasked (word (F := F) tbQ T0 i) (word (F := F) tbK T1 i) x1 x0 St.init))) (stepMasked (word (F := F) tbQ T0 i) (word (F := F) tbK T1 i) x1 x0 St.init) := by
  unfold RunsTo owns
  intro K
  rw [cc0_mla_flash_eq_skeleton]; unfold cc0_mla_flash_skel
  iintro ⟨⟨%f4, %hf4, H0⟩, ⟨%f5, %hf5, H1⟩, HT0, HT1, ⟨%d6, %f6, -, HO⟩, ⟨⟨%d7, %f7, -, HS0⟩, ⟨%d8, %f8, -, HS1⟩, ⟨%d9, %f9, -, HS2⟩⟩, Hk⟩
  have hS0 : scM.IsWhole := Memref.isWhole_whole _
  have hS1 : scL.IsWhole := Memref.isWhole_whole _
  have hS2 : scA.IsWhole := Memref.isWhole_whole _
  have hT0 : tbQ.IsWhole := Memref.isWhole_whole _
  have hT1 : tbK.IsWhole := Memref.isWhole_whole _
  sl_exec! (disch := first | (guard_target = Scalar.cmpi = _; exact h0) | (guard_target = Scalar.cmpi = _; exact h1) | (guard_target = ¬(Scalar.cmpi = _); exact h2) | (guard_target = k0_cond4 _ _ = _; exact h4))
  sl_step
  iapply Hk
  isplitl [H0]
  · iexists f4; isplitr
    · ipureintro; exact hf4
    iexact H0
  isplitl [H1]
  · iexists f5; isplitr
    · ipureintro; exact hf5
    iexact H1
  isplitl [HT0]; · iexact HT0
  isplitl [HT1]; · iexact HT1
  isplitl [HO]
  · iexists _; isplitr
    rotate_left
    · iexact HO
    ipureintro
    sl_unfold_words
    try rw [View.readAt_full arg4.view, hf4]
    try rw [View.readAt_full arg5.view, hf5]
    repeat rw [View.readCov_full]
    refine View.read_writes_eq_canon _ _ (outPieces _ _) (outPieces_cover _ _)
  isplitl [HS0]
  · iexists _; isplitr
    rotate_left
    · iexact HS0
    ipureintro
    sl_unfold_words
    rw [View.read_writes_full]
    try rw [View.readAt_full arg4.view, hf4]
    try rw [View.readAt_full arg5.view, hf5]
    repeat rw [View.readCov_full]
    dsimp only [stepMasked, stepPlain, St.init] <;> rfl
  isplitl [HS1]
  · iexists _; isplitr
    rotate_left
    · iexact HS1
    ipureintro
    sl_unfold_words
    rw [View.read_writes_full]
    try rw [View.readAt_full arg4.view, hf4]
    try rw [View.readAt_full arg5.view, hf5]
    repeat rw [View.readCov_full]
    dsimp only [stepMasked, stepPlain, St.init] <;> rfl
  iexists _; isplitr
  rotate_left
  · iexact HS2
  ipureintro
  sl_unfold_words
  rw [View.read_writes_full]
  try rw [View.readAt_full arg4.view, hf4]
  try rw [View.readAt_full arg5.view, hf5]
  repeat rw [View.readCov_full]
  dsimp only [stepMasked, stepPlain, St.init] <;> rfl

set_option backward.proofsInPublic true in
set_option maxHeartbeats 8000000 in
/-- First key block, below the diagonal. -/
theorem run_B (y : Vec F S1x256x1024 .f32) (h0 : isFirst (word (F := F) tbK T1 i)) (h1 : ¬ crosses (word (F := F) tbQ T0 i) (word (F := F) tbK T1 i))
    (h2 : below (word (F := F) tbQ T0 i) (word (F := F) tbK T1 i)) (h4 : ¬ (k0_cond4 (word (F := F) tbQ T0 i) (word (F := F) tbK T1 i) = 1#1)) :
    RunsTo c i arg4 harg4 arg5 harg5 arg6 harg6 T0 T1 x0 x1 (owns (c : Thread nD τ) arg6 fullShare y) iprop((∃ d, owns (c : Thread nD τ) scM fullShare d) ∗ (∃ d, owns (c : Thread nD τ) scL fullShare d) ∗ (∃ d, owns (c : Thread nD τ) scA fullShare d)) (owns (c : Thread nD τ) arg6 fullShare y) (stepPlain x1 x0 St.init) := by
  unfold RunsTo owns
  intro K
  rw [cc0_mla_flash_eq_skeleton]; unfold cc0_mla_flash_skel
  iintro ⟨⟨%f4, %hf4, H0⟩, ⟨%f5, %hf5, H1⟩, HT0, HT1, ⟨%f6, %hf6, HO⟩, ⟨⟨%d7, %f7, -, HS0⟩, ⟨%d8, %f8, -, HS1⟩, ⟨%d9, %f9, -, HS2⟩⟩, Hk⟩
  have hS0 : scM.IsWhole := Memref.isWhole_whole _
  have hS1 : scL.IsWhole := Memref.isWhole_whole _
  have hS2 : scA.IsWhole := Memref.isWhole_whole _
  have hT0 : tbQ.IsWhole := Memref.isWhole_whole _
  have hT1 : tbK.IsWhole := Memref.isWhole_whole _
  sl_exec! (disch := first | (guard_target = Scalar.cmpi = _; exact h0) | (guard_target = ¬(Scalar.cmpi = _); exact h1) | (guard_target = Scalar.cmpi = _; exact h2) | (guard_target = ¬(k0_cond4 _ _ = _); exact h4))
  sl_step
  iapply Hk
  isplitl [H0]
  · iexists f4; isplitr
    · ipureintro; exact hf4
    iexact H0
  isplitl [H1]
  · iexists f5; isplitr
    · ipureintro; exact hf5
    iexact H1
  isplitl [HT0]; · iexact HT0
  isplitl [HT1]; · iexact HT1
  isplitl [HO]
  · iexists f6; isplitr
    · ipureintro; exact hf6
    iexact HO
  isplitl [HS0]
  · iexists _; isplitr
    rotate_left
    · iexact HS0
    ipureintro
    sl_unfold_words
    rw [View.read_writes_full]
    try rw [View.readAt_full arg4.view, hf4]
    try rw [View.readAt_full arg5.view, hf5]
    repeat rw [View.readCov_full]
    dsimp only [stepMasked, stepPlain, St.init] <;> rfl
  isplitl [HS1]
  · iexists _; isplitr
    rotate_left
    · iexact HS1
    ipureintro
    sl_unfold_words
    rw [View.read_writes_full]
    try rw [View.readAt_full arg4.view, hf4]
    try rw [View.readAt_full arg5.view, hf5]
    repeat rw [View.readCov_full]
    dsimp only [stepMasked, stepPlain, St.init] <;> rfl
  iexists _; isplitr
  rotate_left
  · iexact HS2
  ipureintro
  sl_unfold_words
  rw [View.read_writes_full]
  try rw [View.readAt_full arg4.view, hf4]
  try rw [View.readAt_full arg5.view, hf5]
  repeat rw [View.readCov_full]
  dsimp only [stepMasked, stepPlain, St.init] <;> rfl

set_option backward.proofsInPublic true in
set_option maxHeartbeats 8000000 in
/-- Later key block, crossing the diagonal: result written. -/
theorem run_C (s : St F) (h0 : ¬ isFirst (word (F := F) tbK T1 i)) (h1 : crosses (word (F := F) tbQ T0 i) (word (F := F) tbK T1 i))
    (h2 : ¬ below (word (F := F) tbQ T0 i) (word (F := F) tbK T1 i)) (h4 : (k0_cond4 (word (F := F) tbQ T0 i) (word (F := F) tbK T1 i) = 1#1)) :
    RunsTo c i arg4 harg4 arg5 harg5 arg6 harg6 T0 T1 x0 x1 iprop(∃ d, owns (c : Thread nD τ) arg6 fullShare d) iprop(owns (c : Thread nD τ) scM fullShare s.m ∗ owns (c : Thread nD τ) scL fullShare s.l ∗ owns (c : Thread nD τ) scA fullShare s.a) (owns (c : Thread nD τ) arg6 fullShare (outBlk (stepMasked (word (F := F) tbQ T0 i) (word (F := F) tbK T1 i) x1 x0 s))) (stepMasked (word (F := F) tbQ T0 i) (word (F := F) tbK T1 i) x1 x0 s) := by
  unfold RunsTo owns
  intro K
  rw [cc0_mla_flash_eq_skeleton]; unfold cc0_mla_flash_skel
  iintro ⟨⟨%f4, %hf4, H0⟩, ⟨%f5, %hf5, H1⟩, HT0, HT1, ⟨%d6, %f6, -, HO⟩, ⟨⟨%f7, %hf7, HS0⟩, ⟨%f8, %hf8, HS1⟩, ⟨%f9, %hf9, HS2⟩⟩, Hk⟩
  have hS0 : scM.IsWhole := Memref.isWhole_whole _
  have hS1 : scL.IsWhole := Memref.isWhole_whole _
  have hS2 : scA.IsWhole := Memref.isWhole_whole _
  have hT0 : tbQ.IsWhole := Memref.isWhole_whole _
  have hT1 : tbK.IsWhole := Memref.isWhole_whole _
  sl_exec! (disch := first | (guard_target = ¬(Scalar.cmpi = _); exact h0) | (guard_target = Scalar.cmpi = _; exact h1) | (guard_target = ¬(Scalar.cmpi = _); exact h2) | (guard_target = k0_cond4 _ _ = _; exact h4))
  sl_step
  iapply Hk
  isplitl [H0]
  · iexists f4; isplitr
    · ipureintro; exact hf4
    iexact H0
  isplitl [H1]
  · iexists f5; isplitr
    · ipureintro; exact hf5
    iexact H1
  isplitl [HT0]; · iexact HT0
  isplitl [HT1]; · iexact HT1
  isplitl [HO]
  · iexists _; isplitr
    rotate_left
    · iexact HO
    ipureintro
    sl_unfold_words
    try rw [View.readAt_full arg4.view, hf4]
    try rw [View.readAt_full arg5.view, hf5]
    try rw [View.readAt_full scM.view, hf7]
    try rw [View.readAt_full scL.view, hf8]
    try rw [View.readAt_full scA.view, hf9]
    repeat rw [View.readCov_full]
    refine View.read_writes_eq_canon _ _ (outPieces _ _) (outPieces_cover _ _)
  isplitl [HS0]
  · iexists _; isplitr
    rotate_left
    · iexact HS0
    ipureintro
    sl_unfold_words
    rw [View.read_writes_full]
    try rw [View.readAt_full arg4.view, hf4]
    try rw [View.readAt_full arg5.view, hf5]
    try rw [View.readAt_full scM.view, hf7]
    try rw [View.readAt_full scL.view, hf8]
    try rw [View.readAt_full scA.view, hf9]
    repeat rw [View.readCov_full]
    dsimp only [stepMasked, stepPlain, St.init] <;> rfl
  isplitl [HS1]
  · iexists _; isplitr
    rotate_left
    · iexact HS1
    ipureintro
    sl_unfold_words
    rw [View.read_writes_full]
    try rw [View.readAt_full arg4.view, hf4]
    try rw [View.readAt_full arg5.view, hf5]
    try rw [View.readAt_full scM.view, hf7]
    try rw [View.readAt_full scL.view, hf8]
    try rw [View.readAt_full scA.view, hf9]
    repeat rw [View.readCov_full]
    dsimp only [stepMasked, stepPlain, St.init] <;> rfl
  iexists _; isplitr
  rotate_left
  · iexact HS2
  ipureintro
  sl_unfold_words
  rw [View.read_writes_full]
  try rw [View.readAt_full arg4.view, hf4]
  try rw [View.readAt_full arg5.view, hf5]
  try rw [View.readAt_full scM.view, hf7]
  try rw [View.readAt_full scL.view, hf8]
  try rw [View.readAt_full scA.view, hf9]
  repeat rw [View.readCov_full]
  dsimp only [stepMasked, stepPlain, St.init] <;> rfl

set_option backward.proofsInPublic true in
set_option maxHeartbeats 8000000 in
/-- Later key block, below the diagonal. -/
theorem run_D (s : St F) (y : Vec F S1x256x1024 .f32) (h0 : ¬ isFirst (word (F := F) tbK T1 i)) (h1 : ¬ crosses (word (F := F) tbQ T0 i) (word (F := F) tbK T1 i))
    (h2 : below (word (F := F) tbQ T0 i) (word (F := F) tbK T1 i)) (h4 : ¬ (k0_cond4 (word (F := F) tbQ T0 i) (word (F := F) tbK T1 i) = 1#1)) :
    RunsTo c i arg4 harg4 arg5 harg5 arg6 harg6 T0 T1 x0 x1 (owns (c : Thread nD τ) arg6 fullShare y) iprop(owns (c : Thread nD τ) scM fullShare s.m ∗ owns (c : Thread nD τ) scL fullShare s.l ∗ owns (c : Thread nD τ) scA fullShare s.a) (owns (c : Thread nD τ) arg6 fullShare y) (stepPlain x1 x0 s) := by
  unfold RunsTo owns
  intro K
  rw [cc0_mla_flash_eq_skeleton]; unfold cc0_mla_flash_skel
  iintro ⟨⟨%f4, %hf4, H0⟩, ⟨%f5, %hf5, H1⟩, HT0, HT1, ⟨%f6, %hf6, HO⟩, ⟨⟨%f7, %hf7, HS0⟩, ⟨%f8, %hf8, HS1⟩, ⟨%f9, %hf9, HS2⟩⟩, Hk⟩
  have hS0 : scM.IsWhole := Memref.isWhole_whole _
  have hS1 : scL.IsWhole := Memref.isWhole_whole _
  have hS2 : scA.IsWhole := Memref.isWhole_whole _
  have hT0 : tbQ.IsWhole := Memref.isWhole_whole _
  have hT1 : tbK.IsWhole := Memref.isWhole_whole _
  sl_exec! (disch := first | (guard_target = ¬(Scalar.cmpi = _); exact h0) | (guard_target = ¬(Scalar.cmpi = _); exact h1) | (guard_target = Scalar.cmpi = _; exact h2) | (guard_target = ¬(k0_cond4 _ _ = _); exact h4))
  sl_step
  iapply Hk
  isplitl [H0]
  · iexists f4; isplitr
    · ipureintro; exact hf4
    iexact H0
  isplitl [H1]
  · iexists f5; isplitr
    · ipureintro; exact hf5
    iexact H1
  isplitl [HT0]; · iexact HT0
  isplitl [HT1]; · iexact HT1
  isplitl [HO]
  · iexists f6; isplitr
    · ipureintro; exact hf6
    iexact HO
  isplitl [HS0]
  · iexists _; isplitr
    rotate_left
    · iexact HS0
    ipureintro
    sl_unfold_words
    rw [View.read_writes_full]
    try rw [View.readAt_full arg4.view, hf4]
    try rw [View.readAt_full arg5.view, hf5]
    try rw [View.readAt_full scM.view, hf7]
    try rw [View.readAt_full scL.view, hf8]
    try rw [View.readAt_full scA.view, hf9]
    repeat rw [View.readCov_full]
    dsimp only [stepMasked, stepPlain, St.init] <;> rfl
  isplitl [HS1]
  · iexists _; isplitr
    rotate_left
    · iexact HS1
    ipureintro
    sl_unfold_words
    rw [View.read_writes_full]
    try rw [View.readAt_full arg4.view, hf4]
    try rw [View.readAt_full arg5.view, hf5]
    try rw [View.readAt_full scM.view, hf7]
    try rw [View.readAt_full scL.view, hf8]
    try rw [View.readAt_full scA.view, hf9]
    repeat rw [View.readCov_full]
    dsimp only [stepMasked, stepPlain, St.init] <;> rfl
  iexists _; isplitr
  rotate_left
  · iexact HS2
  ipureintro
  sl_unfold_words
  rw [View.read_writes_full]
  try rw [View.readAt_full arg4.view, hf4]
  try rw [View.readAt_full arg5.view, hf5]
  try rw [View.readAt_full scM.view, hf7]
  try rw [View.readAt_full scL.view, hf8]
  try rw [View.readAt_full scA.view, hf9]
  repeat rw [View.readCov_full]
  dsimp only [stepMasked, stepPlain, St.init] <;> rfl

end

end Cert.KernelIdeal.Mla

end
-- ==== Proof.Tables.lean ====
/-
  The two tables the kernel is launched with, the pipeline at them, and what they say at each of its 544 points.
-/
module

public import proofs.«01_k».proof.Proof.Body

@[expose] public section

set_option maxRecDepth 16384
set_option Elab.async false

noncomputable section

namespace Cert.KernelIdeal.Mla

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

variable {F : FTy → Type} [FloatOps F]

local notation "𝕄" => MT nD τ sig Unit (Elt F) ℕ (UR sig nD τ) ℕ

/-- The table of query blocks and the table of key blocks, as the program writes them before the launch. -/
def tabQ : S272.Idx → BitVec 32 := fun i => lit0 (S272.rowMajor i)
def tabK : S272.Idx → BitVec 32 := fun i => lit1 (S272.rowMajor i)

set_option backward.proofsInPublic true in
/-- The tables' contents at the launch. -/
def tabs : pre0.Contents (Elt F) := fun | ⟨0, _⟩ => tabQ | ⟨1, _⟩ => tabK | ⟨_ + 2, h⟩ => absurd h (by simp)

theorem inb_q : ∀ i : grid0.Coords, ∀ a, (cc0_transform_0 k0_off1_inb numel1_S1 (tabs (F := F)) i a + 1) * S1x8x256x256.size a ≤ S2x8x8192x256.size a :=
  of_decide_eq_true (by sl_kernel_rfl)
theorem inb_k : ∀ i : grid0.Coords, ∀ a, (cc0_transform_1 k0_off1_inb numel1_S1 (tabs (F := F)) i a + 1) * S1x512x256.size a ≤ S2x8192x256.size a :=
  of_decide_eq_true (by sl_kernel_rfl)
theorem inb_o : ∀ i : grid0.Coords, ∀ a, (cc0_transform_2 k0_off1_inb numel1_S1 (tabs (F := F)) i a + 1) * S1x256x1024.size a ≤ S2x8192x1024.size a :=
  of_decide_eq_true (by sl_kernel_rfl)

/-- Every block lies inside its array and on whole words. -/
theorem tabs_ok : ok0 (F := F) tabs :=
  ⟨fun i => ⟨inb_q i, .inr (Affine.block_words_dvd (s := S2x8x8192x256) (p := EltTy.packing .bf16) (by decide) (by decide))⟩,
   fun i => ⟨inb_k i, .inr (Affine.block_words_dvd (s := S2x8192x256) (p := EltTy.packing .bf16) (by decide) (by decide))⟩,
   fun i => ⟨inb_o i, .inl rfl⟩⟩

/-- The pipeline at the tables. -/
def adm : (pcfg0 (F := F)).Adm := ⟨tabs, tabs_ok⟩
variable (F) in
abbrev cfgA : Pipeline.Cfg sig Λ₀ := cfg0 (F := F) adm
variable (F) in
abbrev pcs : Fin 1 → Pipeline.Cfg sig Λ₀ := Pipeline.pin (pcfgs (F := F)) fun _ => adm

/-- A point's coordinates. -/
abbrev crd (t : Fin (cfgA F).N) : (cfgA F).grid.Coords := (cfgA F).grid.coords t

/-- The two words read at a point: its query block and its key block. -/
abbrev qw (t : Fin (cfgA F).N) : BitVec 32 := word (F := F) tbQ tabQ (crd t)
abbrev kw (t : Fin (cfgA F).N) : BitVec 32 := word (F := F) tbK tabK (crd t)

/-- What the words and the schedule say at a point: the first point takes a first key block; a block crossing the diagonal is
    a query block's last one, whose result is stored and written back; at any other the output is left alone. -/
abbrev PointFacts (t : Fin (cfgA F).N) : Prop :=
  (t.val = 0 → isFirst (kw t))
  ∧ (crosses (qw t) (kw t) → ¬ below (qw t) (kw t) ∧ k0_cond4 (qw t) (kw t) = 1#1
      ∧ (cfgA F).idle (2 : Fin 3) (crd t) = false ∧ ((cfgA F).win (2 : Fin 3)).flush t = true)
  ∧ (¬ crosses (qw t) (kw t) → below (qw t) (kw t) ∧ ¬ k0_cond4 (qw t) (kw t) = 1#1
      ∧ (cfgA F).idle (2 : Fin 3) (crd t) = true ∧ ((cfgA F).win (2 : Fin 3)).flush t = false)

theorem pointFacts : ∀ t : Fin (cfgA F).N, PointFacts t := of_decide_eq_true (by sl_kernel_rfl)

theorem fresh2 (t : Fin (cfgA F).N) : (cfgA F).fresh (2 : Fin 3) t.val = true :=
  Pipeline.Cfg.fresh_tab (cfgA F) (2 : Fin 3) (fun _ => true) rfl (fun t => by
    by_cases h : crosses (qw t) (kw t)
    · rw [((pointFacts t).2.1 h).2.2.2]; rfl
    · rw [((pointFacts t).2.2 h).2.2.1, ((pointFacts t).2.2 h).2.2.2]; rfl) t.val (Nat.le_of_lt t.isLt)

end Cert.KernelIdeal.Mla

end
-- ==== Proof.Points.lean ====
/-
  The kernel's scratch vectors from point to point, and its body at every point of the grid.
-/
module

public import proofs.«01_k».proof.Proof.Tables

@[expose] public section

set_option maxRecDepth 16384
set_option Elab.async false

noncomputable section

namespace Cert.KernelIdeal.Mla

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg) (c : Dev nD)

/-- Each window's staging buffer at a point. -/
abbrev ms0 (t : Fin (cfgA F).N) : Memref sig .tc .vmem S1x8x256x256 .bf16 := spec0_0.stage ((cfgA F).slots t (0 : Fin 3))
abbrev hs0 (t : Fin (cfgA F).N) : (ms0 t).IsWhole := hstage0_0 (((cfgA F).slots t (0 : Fin 3)).cast nbuf0_0)
abbrev ms1 (t : Fin (cfgA F).N) : Memref sig .tc .vmem S1x512x256 .bf16 := spec0_1.stage ((cfgA F).slots t (1 : Fin 3))
abbrev hs1 (t : Fin (cfgA F).N) : (ms1 t).IsWhole := hstage0_1 (((cfgA F).slots t (1 : Fin 3)).cast nbuf0_1)
abbrev ms2 (t : Fin (cfgA F).N) : Memref sig .tc .vmem S1x256x1024 .f32 := spec0_2.stage ((cfgA F).slots t (2 : Fin 3))
abbrev hs2 (t : Fin (cfgA F).N) : (ms2 t).IsWhole := hstage0_2 (((cfgA F).slots t (2 : Fin 3)).cast nbuf0_2)

/-- A window's block at a point, read off its array at launch. -/
def iblk (w : Fin (cfgA F).W) (t : Fin (cfgA F).N) : (((cfgA F).win w).xblock (crd t)).Idx → Elt F ((cfgA F).win w).elt :=
  (((cfgA F).win w).blk t).view.read (Elt F) (m (((cfgA F).win w).arr.view.loc (c : Thread nD τ)))

/-! ## The scratch vectors from point to point -/

/-- One point's effect on the scratch vectors. -/
def step (t : Fin (cfgA F).N) (s : St F) : St F :=
  let s0 := if isFirst (kw t) then St.init else s
  if crosses (qw t) (kw t) then stepMasked (qw t) (kw t) (iblk m c (1 : Fin 3) t) (iblk m c (0 : Fin 3) t) s0
  else stepPlain (iblk m c (1 : Fin 3) t) (iblk m c (0 : Fin 3) t) s0

/-- The scratch vectors before point `n`. -/
def stAt : ℕ → St F
  | 0 => St.init
  | n + 1 => if h : n < (cfgA F).N then step m c ⟨n, h⟩ (stAt n) else stAt n

theorem stAt_succ (t : Fin (cfgA F).N) : stAt m c (t.val + 1) = step m c t (stAt m c t.val) := by
  rw [stAt, dif_pos t.isLt]

theorem step_A (t : Fin (cfgA F).N) (s : St F) (h0 : isFirst (kw t)) (h1 : crosses (qw t) (kw t)) :
    step m c t s = stepMasked (qw t) (kw t) (iblk m c (1 : Fin 3) t) (iblk m c (0 : Fin 3) t) St.init := by
  unfold step; rw [if_pos h0, if_pos h1]
theorem step_B (t : Fin (cfgA F).N) (s : St F) (h0 : isFirst (kw t)) (h1 : ¬ crosses (qw t) (kw t)) :
    step m c t s = stepPlain (iblk m c (1 : Fin 3) t) (iblk m c (0 : Fin 3) t) St.init := by
  unfold step; rw [if_pos h0, if_neg h1]
theorem step_C (t : Fin (cfgA F).N) (s : St F) (h0 : ¬ isFirst (kw t)) (h1 : crosses (qw t) (kw t)) :
    step m c t s = stepMasked (qw t) (kw t) (iblk m c (1 : Fin 3) t) (iblk m c (0 : Fin 3) t) s := by
  unfold step; rw [if_neg h0, if_pos h1]
theorem step_D (t : Fin (cfgA F).N) (s : St F) (h0 : ¬ isFirst (kw t)) (h1 : ¬ crosses (qw t) (kw t)) :
    step m c t s = stepPlain (iblk m c (1 : Fin 3) t) (iblk m c (0 : Fin 3) t) s := by
  unfold step; rw [if_neg h0, if_neg h1]

/-! ## The proof data -/

/-- What holds between points: the scratch vectors (anything before the first point), and a half of each table. -/
def Phi (t : Fin ((cfgA F).N + 1)) : sProp 𝕄 :=
  iprop((∃ d, ⌜t.val ≠ 0 → d = (stAt m c t.val).m⌝ ∗ owns (c : Thread nD τ) scM fullShare d)
    ∗ (∃ d, ⌜t.val ≠ 0 → d = (stAt m c t.val).l⌝ ∗ owns (c : Thread nD τ) scL fullShare d)
    ∗ (∃ d, ⌜t.val ≠ 0 → d = (stAt m c t.val).a⌝ ∗ owns (c : Thread nD τ) scA fullShare d)
    ∗ (tbQ.view.loc (c : Thread nD τ) ↦{fullShare.right} (tabQ : Buf (Elt F) (tbQ.view.loc (c : Thread nD τ))))
    ∗ (tbK.view.loc (c : Thread nD τ) ↦{fullShare.right} (tabK : Buf (Elt F) (tbK.view.loc (c : Thread nD τ)))))

def dats (_ : Fin 1) (c : Dev nD) : Dat τ (Elt F) Unit ℕ (UR sig nD τ) ℕ (cfgA F) c where
  A w := m (((cfgA F).win w).arr.view.loc (c : Thread nD τ))
  after w t := match w with
    | ⟨0, _⟩ => iblk m c (0 : Fin 3) t
    | ⟨1, _⟩ => iblk m c (1 : Fin 3) t
    | ⟨2, _⟩ => outBlk (stAt m c (t.val + 1))
  Φ t := Phi m c t
  q _ := fullShare
  owed _ := 0

theorem after0 (t : Fin (cfgA F).N) : (dats m 0 c).after (0 : Fin 3) t = iblk m c (0 : Fin 3) t := rfl
theorem after1 (t : Fin (cfgA F).N) : (dats m 0 c).after (1 : Fin 3) t = iblk m c (1 : Fin 3) t := rfl
seal outBlk stAt in
theorem after2 (t : Fin (cfgA F).N) : (dats m 0 c).after (2 : Fin 3) t = outBlk (stAt m c (t.val + 1)) := rfl

theorem before0 (t : Fin (cfgA F).N) (d) : (dats m 0 c).before (0 : Fin 3) t d = iblk m c (0 : Fin 3) t :=
  ((dats m 0 c).before_in_eq_fetched (0 : Fin 3) rfl (fun _ => rfl) (fun _ _ _ => rfl) (fun t => by rw [after0]; unfold Dat.blockOf iblk; rfl) t d).trans
    (by unfold Dat.fetched Dat.blockOf iblk; rfl)
theorem before1 (t : Fin (cfgA F).N) (d) : (dats m 0 c).before (1 : Fin 3) t d = iblk m c (1 : Fin 3) t :=
  ((dats m 0 c).before_in_eq_fetched (1 : Fin 3) rfl (fun _ => rfl) (fun _ _ _ => rfl) (fun t => by rw [after1]; unfold Dat.blockOf iblk; rfl) t d).trans
    (by unfold Dat.fetched Dat.blockOf iblk; rfl)
theorem before2 (t : Fin (cfgA F).N) (d) : (dats m 0 c).before (2 : Fin 3) t d = d := by
  rw [(dats m 0 c).before_out_traj (2 : Fin 3) rfl (fun _ _ => rfl)
    (fun t _ _ hf => absurd hf (by rw [fresh2 t]; decide)) t.val t rfl d, fresh2 t]
  rfl

/-! ## The body at every point -/

set_option maxHeartbeats 4000000 in
theorem sound_body (t : Fin (cfgA F).N) :
    iprop((dats m 0 c).Φ t.castSucc ∗ (dats m 0 c).owesAt () t.castSucc
        ∗ (∃ d, owns (c : Thread nD τ) (ms0 t) fullShare ((dats m 0 c).before (0 : Fin 3) t d))
        ∗ (∃ d, owns (c : Thread nD τ) (ms1 t) fullShare ((dats m 0 c).before (1 : Fin 3) t d))
        ∗ (∃ d, owns (c : Thread nD τ) (ms2 t) fullShare ((dats m 0 c).before (2 : Fin 3) t d)))
      ⊢ wp frame (wpE (defs₀ (F := F)) Variants.none c none) Set.univ
          (cc0_mla_flash (crd t) tbQ (Memref.isWhole_whole _) tbK (Memref.isWhole_whole _) (ms0 t) (hs0 t) (ms1 t) (hs1 t) (ms2 t) (hs2 t)
            scM (Memref.isWhole_whole _) scL (Memref.isWhole_whole _) scA (Memref.isWhole_whole _)) fun _ =>
          iprop((dats m 0 c).Φ t.succ ∗ (dats m 0 c).owesAt () t.succ
            ∗ bigSep Finset.univ fun w : Fin (cfgA F).W =>
                match (cfgA F).idle w ((cfgA F).grid.coords t) with
                | true =>
                  match ((cfgA F).win w).flush t with
                  | false => iprop(∃ d, owns (c : Thread nD τ) (((cfgA F).win w).stage ((cfgA F).slots t w)) fullShare ((dats m 0 c).before w t d))
                  | true => owns (c : Thread nD τ) (((cfgA F).win w).stage ((cfgA F).slots t w)) fullShare ((dats m 0 c).after w t)
                | false => owns (c : Thread nD τ) (((cfgA F).win w).stage ((cfgA F).slots t w)) fullShare ((dats m 0 c).after w t)) := by
  rw [bigSep_W0]
  have hΦ : ∀ u, (dats m 0 c).Φ u = Phi m c u := fun _ => rfl
  have hO : (dats m 0 c).owesAt () t.succ = (dats m 0 c).owesAt () t.castSucc := rfl
  have hn0 : t.succ.val ≠ 0 := by rw [Fin.val_succ]; exact Nat.succ_ne_zero _
  by_cases h0 : isFirst (kw t)
  · by_cases h1 : crosses (qw t) (kw t)
    · obtain ⟨h2, h4, i2, f2⟩ := (pointFacts t).2.1 h1
      rewrite [i2]
      simp only [before0, before1, before2, after0, after1, after2, f2]
      rewrite [hO, hΦ, hΦ, stAt_succ, step_A m c t _ h0 h1]
      unfold Phi
      rewrite [Fin.val_castSucc, Fin.val_succ, stAt_succ, step_A m c t _ h0 h1]
      iintro ⟨⟨⟨%a0, -, HS0⟩, ⟨%a1, -, HS1⟩, ⟨%a2, -, HS2⟩, HT0, HT1⟩, Ho, ⟨%d0, H0⟩, ⟨%d1, H1⟩, ⟨%d2, H2⟩⟩
      iapply (run_A c (crd t) (ms0 t) (hs0 t) (ms1 t) (hs1 t) (ms2 t) (hs2 t) tabQ tabK (iblk m c (0 : Fin 3) t) (iblk m c (1 : Fin 3) t) h0 h1 h2 h4 _)
      isplitl [H0]; · iexact H0
      isplitl [H1]; · iexact H1
      isplitl [HT0]; · iexact HT0
      isplitl [HT1]; · iexact HT1
      isplitl [H2]; · iexists _; iexact H2
      isplitl [HS0 HS1 HS2]
      · isplitl [HS0]; · iexists _; iexact HS0
        isplitl [HS1]; · iexists _; iexact HS1
        iexists _; iexact HS2
      iintro ⟨H0, H1, HT0, HT1, H2, HS0, HS1, HS2⟩
      isplitl [HS0 HS1 HS2 HT0 HT1]
      · isplitl [HS0]; · iexists _; isplitr; swap; · iexact HS0
                         ipureintro; intro _; rfl
        isplitl [HS1]; · iexists _; isplitr; swap; · iexact HS1
                         ipureintro; intro _; rfl
        isplitl [HS2]; · iexists _; isplitr; swap; · iexact HS2
                         ipureintro; intro _; rfl
        isplitl [HT0]; · iexact HT0
        iexact HT1
      isplitl [Ho]; · iexact Ho
      isplitl [H0]; · iexact H0
      isplitl [H1]; · iexact H1
      iexact H2
    · obtain ⟨h2, h4, i2, f2⟩ := (pointFacts t).2.2 h1
      rewrite [i2]
      simp only [before0, before1, before2, after0, after1, after2, f2]
      rewrite [hO, hΦ, hΦ]
      unfold Phi
      rewrite [Fin.val_castSucc, Fin.val_succ, stAt_succ, step_B m c t _ h0 h1]
      iintro ⟨⟨⟨%a0, -, HS0⟩, ⟨%a1, -, HS1⟩, ⟨%a2, -, HS2⟩, HT0, HT1⟩, Ho, ⟨%d0, H0⟩, ⟨%d1, H1⟩, ⟨%d2, H2⟩⟩
      iapply (run_B c (crd t) (ms0 t) (hs0 t) (ms1 t) (hs1 t) (ms2 t) (hs2 t) tabQ tabK (iblk m c (0 : Fin 3) t) (iblk m c (1 : Fin 3) t) d2 h0 h1 h2 h4 _)
      isplitl [H0]; · iexact H0
      isplitl [H1]; · iexact H1
      isplitl [HT0]; · iexact HT0
      isplitl [HT1]; · iexact HT1
      isplitl [H2]; · iexact H2
      isplitl [HS0 HS1 HS2]
      · isplitl [HS0]; · iexists _; iexact HS0
        isplitl [HS1]; · iexists _; iexact HS1
        iexists _; iexact HS2
      iintro ⟨H0, H1, HT0, HT1, H2, HS0, HS1, HS2⟩
      isplitl [HS0 HS1 HS2 HT0 HT1]
      · isplitl [HS0]; · iexists _; isplitr; swap; · iexact HS0
                         ipureintro; intro _; rfl
        isplitl [HS1]; · iexists _; isplitr; swap; · iexact HS1
                         ipureintro; intro _; rfl
        isplitl [HS2]; · iexists _; isplitr; swap; · iexact HS2
                         ipureintro; intro _; rfl
        isplitl [HT0]; · iexact HT0
        iexact HT1
      isplitl [Ho]; · iexact Ho
      isplitl [H0]; · iexact H0
      isplitl [H1]; · iexact H1
      iexists d2; iexact H2
  · have ht0 : t.val ≠ 0 := fun h => h0 ((pointFacts t).1 h)
    by_cases h1 : crosses (qw t) (kw t)
    · obtain ⟨h2, h4, i2, f2⟩ := (pointFacts t).2.1 h1
      rewrite [i2]
      simp only [before0, before1, before2, after0, after1, after2, f2]
      rewrite [hO, hΦ, hΦ, stAt_succ, step_C m c t _ h0 h1]
      unfold Phi
      rewrite [Fin.val_castSucc, Fin.val_succ, stAt_succ, step_C m c t _ h0 h1]
      iintro ⟨⟨⟨%a0, %e0, HS0⟩, ⟨%a1, %e1, HS1⟩, ⟨%a2, %e2, HS2⟩, HT0, HT1⟩, Ho, ⟨%d0, H0⟩, ⟨%d1, H1⟩, ⟨%d2, H2⟩⟩
      rewrite [e0 ht0, e1 ht0, e2 ht0]
      iapply (run_C c (crd t) (ms0 t) (hs0 t) (ms1 t) (hs1 t) (ms2 t) (hs2 t) tabQ tabK (iblk m c (0 : Fin 3) t) (iblk m c (1 : Fin 3) t) (stAt m c t.val) h0 h1 h2 h4 _)
      isplitl [H0]; · iexact H0
      isplitl [H1]; · iexact H1
      isplitl [HT0]; · iexact HT0
      isplitl [HT1]; · iexact HT1
      isplitl [H2]; · iexists _; iexact H2
      isplitl [HS0 HS1 HS2]
      · isplitl [HS0]; · iexact HS0
        isplitl [HS1]; · iexact HS1
        iexact HS2
      iintro ⟨H0, H1, HT0, HT1, H2, HS0, HS1, HS2⟩
      isplitl [HS0 HS1 HS2 HT0 HT1]
      · isplitl [HS0]; · iexists _; isplitr; swap; · iexact HS0
                         ipureintro; intro _; rfl
        isplitl [HS1]; · iexists _; isplitr; swap; · iexact HS1
                         ipureintro; intro _; rfl
        isplitl [HS2]; · iexists _; isplitr; swap; · iexact HS2
                         ipureintro; intro _; rfl
        isplitl [HT0]; · iexact HT0
        iexact HT1
      isplitl [Ho]; · iexact Ho
      isplitl [H0]; · iexact H0
      isplitl [H1]; · iexact H1
      iexact H2
    · obtain ⟨h2, h4, i2, f2⟩ := (pointFacts t).2.2 h1
      rewrite [i2]
      simp only [before0, before1, before2, after0, after1, after2, f2]
      rewrite [hO, hΦ, hΦ]
      unfold Phi
      rewrite [Fin.val_castSucc, Fin.val_succ, stAt_succ, step_D m c t _ h0 h1]
      iintro ⟨⟨⟨%a0, %e0, HS0⟩, ⟨%a1, %e1, HS1⟩, ⟨%a2, %e2, HS2⟩, HT0, HT1⟩, Ho, ⟨%d0, H0⟩, ⟨%d1, H1⟩, ⟨%d2, H2⟩⟩
      rewrite [e0 ht0, e1 ht0, e2 ht0]
      iapply (run_D c (crd t) (ms0 t) (hs0 t) (ms1 t) (hs1 t) (ms2 t) (hs2 t) tabQ tabK (iblk m c (0 : Fin 3) t) (iblk m c (1 : Fin 3) t) (stAt m c t.val) d2 h0 h1 h2 h4 _)
      isplitl [H0]; · iexact H0
      isplitl [H1]; · iexact H1
      isplitl [HT0]; · iexact HT0
      isplitl [HT1]; · iexact HT1
      isplitl [H2]; · iexact H2
      isplitl [HS0 HS1 HS2]
      · isplitl [HS0]; · iexact HS0
        isplitl [HS1]; · iexact HS1
        iexact HS2
      iintro ⟨H0, H1, HT0, HT1, H2, HS0, HS1, HS2⟩
      isplitl [HS0 HS1 HS2 HT0 HT1]
      · isplitl [HS0]; · iexists _; isplitr; swap; · iexact HS0
                         ipureintro; intro _; rfl
        isplitl [HS1]; · iexists _; isplitr; swap; · iexact HS1
                         ipureintro; intro _; rfl
        isplitl [HS2]; · iexists _; isplitr; swap; · iexact HS2
                         ipureintro; intro _; rfl
        isplitl [HT0]; · iexact HT0
        iexact HT1
      isplitl [Ho]; · iexact Ho
      isplitl [H0]; · iexact H0
      isplitl [H1]; · iexact H1
      iexists d2; iexact H2

theorem body_obligation : BodyObligation (dats m 0 c) (defs₀ (F := F)) Variants.none () Set.univ := fun t => by
  rw [bigSep_W0]
  exact sound_body m c t

end Cert.KernelIdeal.Mla

end
-- ==== Proof.Run.lean ====
/-
  The kernel from launch to end: it terminates, leaves its arguments alone and its result as its points computed it.
-/
module

public import proofs.«01_k».proof.Proof.Points

@[expose] public section

set_option maxRecDepth 16384
set_option Elab.async false

noncomputable section

namespace Cert.KernelIdeal.Mla

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev EP : Emb (UR sig nD τ) 𝕄 := emb₁

variable (F) in
/-- The pipeline's launch element. -/
def u₀ : UR sig nD τ :=
  initOf (Pipeline.cells (pcs F) ((launch0 (F := F)).cellOf_inj fun _ => adm))
    (Pipeline.launchToks (pcs F) ((launch0 (F := F)).cellOf_inj fun _ => adm))

theorem share_eq (c : Dev nD) (w : Fin (cfgA F).W) : (dats m 0 c).share w = fullShare := by unfold Dat.share; split <;> rfl

/-- The tables as the launch hands them over, one by one. -/
theorem prefHeld_eq (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_c) ↦{q 0} v 0) ∗ (((c : Thread nD τ).loc main_c_0) ↦{q 1} v 1)) := by
  unfold Pipeline.prefHeld
  rw [show (Finset.univ : Finset (Fin 2)) = insert (0 : Fin 2) {(1 : Fin 2)} from by decide,
    bigSep_insert (by decide), bigSep_singleton]
  rfl

/-- At the first point: the tables and the scratch vectors, whatever they hold. -/
theorem phi_first (c : Dev nD) :
    iprop(BI.emp ∗ Pipeline.prefHeld pre0 c (fun _ => fullShare.right) (adm (F := F)).1 ∗ Pipeline.scopedRest spec0 c) ⊢ (dats m 0 c).Φ 0 := by
  rw [prefHeld_eq, scopedRest0_eq, show (dats m 0 c).Φ 0 = Phi m c 0 from rfl]
  unfold Phi
  iintro ⟨-, ⟨HT0, HT1⟩, ⟨%a0, HS0⟩, ⟨%a1, HS1⟩, ⟨%a2, HS2⟩⟩
  isplitl [HS0]
  · iexists a0; isplitr; swap
    · rw [owns_whole]; iexact HS0
    · ipureintro; intro h; exact absurd rfl h
  isplitl [HS1]
  · iexists a1; isplitr; swap
    · rw [owns_whole]; iexact HS1
    · ipureintro; intro h; exact absurd rfl h
  isplitl [HS2]
  · iexists a2; isplitr; swap
    · rw [owns_whole]; iexact HS2
    · ipureintro; intro h; exact absurd rfl h
  isplitl [HT0]
  · iexact HT0
  iexact HT1

/-- After the last point: the scratch vectors given back. -/
theorem phi_last (c : Dev nD) : (dats m 0 c).Φ (Fin.last (cfgA F).N) ⊢ iprop(BI.emp ∗ Pipeline.scopedRest spec0 c) := by
  rw [scopedRest0_eq, show (dats m 0 c).Φ (Fin.last (cfgA F).N) = Phi m c (Fin.last _) from rfl]
  unfold Phi
  have hM : ∀ d, (owns (c : Thread nD τ) scM fullShare d : sProp 𝕄) = ((c : Thread nD τ).loc cc0_scratch0) ↦{fullShare} d := fun d => owns_whole (c : Thread nD τ) cc0_scratch0 fullShare d
  have hL : ∀ d, (owns (c : Thread nD τ) scL fullShare d : sProp 𝕄) = ((c : Thread nD τ).loc cc0_scratch1) ↦{fullShare} d := fun d => owns_whole (c : Thread nD τ) cc0_scratch1 fullShare d
  have hA : ∀ d, (owns (c : Thread nD τ) scA fullShare d : sProp 𝕄) = ((c : Thread nD τ).loc cc0_scratch2) ↦{fullShare} d := fun d => owns_whole (c : Thread nD τ) cc0_scratch2 fullShare d
  simp only [hM, hL, hA]
  iintro ⟨⟨%a0, -, HS0⟩, ⟨%a1, -, HS1⟩, ⟨%a2, -, HS2⟩, -, -⟩
  isplitr; · iempintro
  isplitl [HS0]
  · iexists a0; iexact HS0
  isplitl [HS1]
  · iexists a1; iexact HS1
  iexists a2; iexact HS2

/-- The buffers when the kernel is launched: the tables written, the rest as given. -/
abbrev launched (c : Dev nD) (b : Ref sig .tc) : Buf (Elt F) ((c : Thread nD τ).loc b) :=
  StableHlo.after hostOps0 (fun b => m (c, b)) (Proc.devRef .tc b)

theorem launched_Q (c : Dev nD) : launched m c main_c = (tabQ : S272.Idx → Elt F .i32) := by
  have h1 := StableHlo.nullary_result_ne (τ := τ) (Val := Elt F) main_c_0 (fun i => lit1 (S272.rowMajor i)) (by decide)
    ((StableHlo.nullary (τ := τ) (Val := Elt F) main_c (fun i => lit0 (S272.rowMajor i)) (by decide)).result fun b => m (c, b)) (r := main_c) (by decide)
  have h2 := StableHlo.nullary_result (τ := τ) (Val := Elt F) main_c (fun i => lit0 (S272.rowMajor i)) (by decide) (fun b => m (c, b))
  exact h1.trans h2

theorem launched_K (c : Dev nD) : launched m c main_c_0 = (tabK : S272.Idx → Elt F .i32) := by
  have h1 := StableHlo.nullary_result (τ := τ) (Val := Elt F) main_c_0 (fun i => lit1 (S272.rowMajor i)) (by decide)
    ((StableHlo.nullary (τ := τ) (Val := Elt F) main_c (fun i => lit0 (S272.rowMajor i)) (by decide)).result fun b => m (c, b))
  exact h1

theorem launched_tab (c : Dev nD) (j : Fin 2) : launched m c (pre0.ref j) = (adm (F := F)).1 j := by
  fin_cases j
  · exact launched_Q m c
  · exact launched_K m c

theorem launched_ne (c : Dev nD) (b : Ref sig .tc) (h0 : b ≠ main_c) (h1 : b ≠ main_c_0) : launched m c b = m ((c : Thread nD τ).loc b) :=
  (StableHlo.nullary_result_ne (τ := τ) main_c_0 _ _ _ h1).trans (StableHlo.nullary_result_ne (τ := τ) main_c _ _ _ h0)

/-- Every array at what the pipeline computes, every table at what it ran at. -/
def QC : PUnit × MemSt nD τ sig (Elt F) → Prop := fun r =>
  ∀ c : Dev nD, (∀ w : Fin (cfgA F).W, r.2.mem (((cfgA F).win w).arr.view.loc (c : Thread nD τ)) = (dats m 0 c).arrAt w (cfgA F).N)
    ∧ ∀ j, r.2.mem ((c : Thread nD τ).loc (pre0.ref j)) = (adm (F := F)).1 j

set_option backward.isDefEq.respectTransparency.types false in
set_option maxHeartbeats 4000000 in
/-- Every weakly fair execution terminates, with every array at what the pipeline computes and every counter at zero. -/
theorem run_main : θ_run (defs (F := F)) (onTc (τ := τ) (main (F := F))) ⟨m, fun _ => 0, ρ⟩ (fun r => QC m r ∧ r.2.sem = fun _ => 0) :=
  Pipeline.θ_run_region_noSem_pf_quiescent pcfgs (fun _ => adm) (dats m) () ((launch0 (F := F)).cellOf_inj fun _ => adm) (0 : Fin 1)
    (launch0 (F := F)).win.to₀ (launch0 (F := F)).pre EP defs₀ Variants.none m ρ main
    (hbody := fun c => (body_obligation m c).loose) (hne := (launch0 (F := F)).block_pos)
    (harr := (launch0 (F := F)).arr_whole) (hstage := (launch0 (F := F)).stage_whole) (howed := fun _ _ => rfl)
    (u₀ := u₀ F) (hu₀ := .rfl)
    (V := launched m)
    (hmain := Pipeline.hmainP_prefix pcfgs (0 : Fin 1) defs₀ Variants.none m main hostOps0 hostOps0_sub
      ⟨rfl, rfl⟩ main_chain)
    (hsplit := fun c => Pipeline.arrays_split (pcs F) (dats m) 0 (launch0 (F := F)).win.arr_inj c (launch0 (F := F)).arr_whole
      (share_eq m c) _ _ fun w => match w with
        | ⟨0, _⟩ => (launched_ne m c main_arg0 (by decide) (by decide)).symm
        | ⟨1, _⟩ => (launched_ne m c main_arg1 (by decide) (by decide)).symm
        | ⟨2, _⟩ => (launched_ne m c main_v0 (by decide) (by decide)).symm)
    (hpf := launched_tab m)
    (X := fun _ => iprop(emp)) (Y := fun _ => iprop(emp)) (Z := fun _ => iprop(emp))
    (hX := fun c => by rw [unscopedRestP0_eq]; iintro -; isplitr <;> iempintro)
    (hin := phi_first m)
    (hout := phi_last m)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The arguments end unchanged. -/
theorem frame :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => ⟨((h.1 c).1 (0 : Fin 3)).trans ((dats m 0 c).arrAt_in (0 : Fin 3) rfl _),
    ((h.1 c).1 (1 : Fin 3)).trans ((dats m 0 c).arrAt_in (1 : Fin 3) rfl _)⟩, h.2⟩) (run_main m ρ)

end Cert.KernelIdeal.Mla

end
-- ==== Proof.Softmax.lean ====
/-
  A softmax taken a block of columns at a time, on the extended reals.

  A row is known by its running maximum `m`, its running sum `l` of exponentials and its running weighted sum `a`. What
  stays true of them (`Rep`) does not need `m` to be the maximum: for some real `M` they are `M`, `exp (-M)` times the sum
  of the columns' weights, and `exp (-M)` times the sum of the weighted values. The quotient of the last two then does not
  depend on `M`, and the one-pass softmax, whose maximum is another such `M`, has the same quotient.
-/
module

public import Idealize.ShloMosaic.Lib.ValueIdx

@[expose] public section

noncomputable section

namespace Cert.KernelIdeal.Mla

open Idealize.ShloMosaic
open scoped BigOperators

/-- A column's weight: the exponential of its score, nothing for a masked column. -/
def wgt (s : EReal) : ℝ := (Ideal.exp s).toReal

theorem wgt_bot : wgt ⊥ = 0 := by simp [wgt]
theorem wgt_coe (x : ℝ) : wgt x = Real.exp x := by simp [wgt]
theorem wgt_nonneg (s : EReal) (hs : s ≠ ⊤) : 0 ≤ wgt s := by
  induction s with
  | bot => simp [wgt]
  | top => exact absurd rfl hs
  | coe x => rw [wgt_coe]; positivity
theorem wgt_pos (s : EReal) (hs : s ≠ ⊤) (hb : s ≠ ⊥) : 0 < wgt s := by
  induction s with
  | bot => exact absurd rfl hb
  | top => exact absurd rfl hs
  | coe x => rw [wgt_coe]; positivity

/-- The exponential of a score taken from a real. -/
theorem exp_sub_coe (s : EReal) (hs : s ≠ ⊤) (M : ℝ) : Ideal.exp (s - (M : EReal)) = ((Real.exp (-M) * wgt s : ℝ) : EReal) := by
  induction s with
  | bot => simp [wgt_bot, EReal.bot_sub]
  | top => exact absurd rfl hs
  | coe x =>
    rw [← EReal.coe_sub, Ideal.exp_coe, wgt_coe, ← Real.exp_add]
    congr 2; ring

/-- The fold of `max` from `-∞`: not `+∞` when no column is, at least every column. -/
theorem fold_ne_top {ι : Type*} (C : Finset ι) (s : ι → EReal) (hs : ∀ i, s i ≠ ⊤) : C.fold max ⊥ s ≠ ⊤ := by
  have h : C.fold max ⊥ s < ⊤ := (Finset.fold_max_lt _).2 ⟨bot_lt_top, fun i _ => lt_top_iff_ne_top.2 (hs i)⟩
  exact h.ne
theorem fold_ne_bot {ι : Type*} (C : Finset ι) (s : ι → EReal) (i : ι) (hi : i ∈ C) (hs : s i ≠ ⊥) : C.fold max ⊥ s ≠ ⊥ := by
  have h : s i ≤ C.fold max ⊥ s := (Finset.le_fold_max _).2 (.inr ⟨i, hi, le_rfl⟩)
  intro e; rw [e] at h; exact hs (le_bot_iff.1 h)

/-- The sum of real numbers read on the extended reals. -/
theorem coe_sum {ι : Type*} (C : Finset ι) (f : ι → ℝ) : ((∑ i ∈ C, f i : ℝ) : EReal) = ∑ i ∈ C, (f i : EReal) := by
  classical
  induction C using Finset.induction_on with
  | empty => simp
  | insert i C hi ih => rw [Finset.sum_insert hi, Finset.sum_insert hi, EReal.coe_add, ih]

/-- What is known of a row whose columns so far have weights summing to `W` and weighted values summing to `V`. -/
def Rep (W V : ℝ) (m l a : EReal) : Prop :=
  ∃ M : ℝ, m = M ∧ l = ((Real.exp (-M) * W : ℝ) : EReal) ∧ a = ((Real.exp (-M) * V : ℝ) : EReal)

/-- The sums over a block of columns, each exponential taken from one real. -/
theorem sum_exp {ι : Type*} [Fintype ι] (s : ι → EReal) (hs : ∀ i, s i ≠ ⊤) (M : ℝ) :
    ∑ i, Ideal.exp (s i - (M : EReal)) = ((Real.exp (-M) * ∑ i, wgt (s i) : ℝ) : EReal) := by
  rw [Finset.mul_sum, coe_sum]
  exact Finset.sum_congr rfl fun i _ => exp_sub_coe _ (hs i) M
theorem sum_exp_mul {ι : Type*} [Fintype ι] (s : ι → EReal) (hs : ∀ i, s i ≠ ⊤) (v : ι → EReal) (u : ι → ℝ) (hv : ∀ i, v i = u i) (M : ℝ) :
    ∑ i, Ideal.exp (s i - (M : EReal)) * v i = ((Real.exp (-M) * ∑ i, wgt (s i) * u i : ℝ) : EReal) := by
  rw [Finset.mul_sum, coe_sum]
  refine Finset.sum_congr rfl fun i _ => ?_
  rw [exp_sub_coe _ (hs i) M, hv i, ← EReal.coe_mul, mul_assoc]

/-- A block of columns taken into a row that is known. -/
theorem Rep.step {ι : Type*} [Fintype ι] {W V : ℝ} {m l a : EReal} (h : Rep W V m l a) (s : ι → EReal) (hs : ∀ i, s i ≠ ⊤)
    (v : ι → EReal) (u : ι → ℝ) (hv : ∀ i, v i = u i) (m' : EReal) (hm : m' = max m (Finset.univ.fold max ⊥ s)) :
    Rep (W + ∑ i, wgt (s i)) (V + ∑ i, wgt (s i) * u i) m' (Ideal.exp (m - m') * l + ∑ i, Ideal.exp (s i - m'))
      (Ideal.exp (m - m') * a + ∑ i, Ideal.exp (s i - m') * v i) := by
  obtain ⟨M, rfl, rfl, rfl⟩ := h
  have htop : m' ≠ ⊤ := by
    rw [hm]; intro e
    rcases max_choice (M : EReal) (Finset.univ.fold max ⊥ s) with h | h
    · rw [h] at e; exact EReal.coe_ne_top _ e
    · rw [h] at e; exact fold_ne_top _ _ hs e
  have hbot : m' ≠ ⊥ := by
    intro e; rw [hm] at e
    have h := le_max_left (M : EReal) (Finset.univ.fold max ⊥ s)
    rw [e] at h; exact EReal.coe_ne_bot _ (le_bot_iff.1 h)
  obtain ⟨M', rfl⟩ : ∃ M' : ℝ, m' = M' := ⟨m'.toReal, (EReal.coe_toReal htop hbot).symm⟩
  refine ⟨M', rfl, ?_, ?_⟩
  · rw [sum_exp s hs, exp_sub_coe _ (EReal.coe_ne_top _), wgt_coe, ← EReal.coe_mul, ← EReal.coe_add]
    congr 1
    rw [mul_add, mul_assoc, ← mul_assoc (Real.exp M), ← Real.exp_add, add_neg_cancel, Real.exp_zero, one_mul]
  · rw [sum_exp_mul s hs v u hv, exp_sub_coe _ (EReal.coe_ne_top _), wgt_coe, ← EReal.coe_mul, ← EReal.coe_add]
    congr 1
    rw [mul_add, mul_assoc, ← mul_assoc (Real.exp M), ← Real.exp_add, add_neg_cancel, Real.exp_zero, one_mul]

/-- The first block of columns, one of which is not masked, taken into a row just reset. -/
theorem Rep.first {ι : Type*} [Fintype ι] (s : ι → EReal) (hs : ∀ i, s i ≠ ⊤) (i₀ : ι) (h₀ : s i₀ ≠ ⊥)
    (v : ι → EReal) (u : ι → ℝ) (hv : ∀ i, v i = u i) (m' : EReal) (hm : m' = max ⊥ (Finset.univ.fold max ⊥ s)) :
    Rep (0 + ∑ i, wgt (s i)) (0 + ∑ i, wgt (s i) * u i) m' (Ideal.exp (⊥ - m') * 0 + ∑ i, Ideal.exp (s i - m'))
      (Ideal.exp (⊥ - m') * 0 + ∑ i, Ideal.exp (s i - m') * v i) := by
  have hm : m' = Finset.univ.fold max ⊥ s := by rw [hm]; exact max_eq_right bot_le
  have htop : m' ≠ ⊤ := by rw [hm]; exact fold_ne_top _ _ hs
  have hbot : m' ≠ ⊥ := by rw [hm]; exact fold_ne_bot _ _ i₀ (Finset.mem_univ _) h₀
  obtain ⟨M', rfl⟩ : ∃ M' : ℝ, m' = M' := ⟨m'.toReal, (EReal.coe_toReal htop hbot).symm⟩
  refine ⟨M', rfl, ?_, ?_⟩
  · rw [sum_exp s hs, mul_zero, zero_add, zero_add]
  · rw [sum_exp_mul s hs v u hv, mul_zero, zero_add, zero_add]

/-- The quotient of a known row. -/
theorem Rep.div {W V : ℝ} {m l a : EReal} (h : Rep W V m l a) (hW : 0 < W) : Ideal.div a l = ((V / W : ℝ) : EReal) := by
  obtain ⟨M, rfl, rfl, rfl⟩ := h
  have hp : Real.exp (-M) * W ≠ 0 := (mul_pos (Real.exp_pos _) hW).ne'
  unfold Ideal.div
  rw [if_neg (by rw [EReal.coe_eq_zero]; exact hp), ← EReal.coe_inv, ← EReal.coe_mul]
  congr 1
  rw [mul_inv, mul_mul_mul_comm, mul_inv_cancel₀ (Real.exp_pos _).ne', one_mul, div_eq_mul_inv]

/-- The one-pass softmax: each weight over the sum of the weights, times its value, summed. -/
theorem softmax_once {ι : Type*} [Fintype ι] (s : ι → EReal) (hs : ∀ i, s i ≠ ⊤) (i₀ : ι) (h₀ : s i₀ ≠ ⊥)
    (v : ι → EReal) (u : ι → ℝ) (hv : ∀ i, v i = u i) (m : EReal) (hm : m = max ⊥ (Finset.univ.fold max ⊥ s)) (l : EReal)
    (hl : l = 0 + ∑ i, Ideal.exp (s i - m)) :
    ∑ i, v i * Ideal.div (Ideal.exp (s i - m)) l = (((∑ i, wgt (s i) * u i) / ∑ i, wgt (s i) : ℝ) : EReal) := by
  have hm : m = Finset.univ.fold max ⊥ s := by rw [hm]; exact max_eq_right bot_le
  have htop : m ≠ ⊤ := by rw [hm]; exact fold_ne_top _ _ hs
  have hbot : m ≠ ⊥ := by rw [hm]; exact fold_ne_bot _ _ i₀ (Finset.mem_univ _) h₀
  obtain ⟨M, rfl⟩ : ∃ M : ℝ, m = M := ⟨m.toReal, (EReal.coe_toReal htop hbot).symm⟩
  have hW : 0 < ∑ i, wgt (s i) :=
    Finset.sum_pos' (fun i _ => wgt_nonneg _ (hs i)) ⟨i₀, Finset.mem_univ _, wgt_pos _ (hs i₀) h₀⟩
  have hp : Real.exp (-M) * ∑ i, wgt (s i) ≠ 0 := (mul_pos (Real.exp_pos _) hW).ne'
  rw [Finset.sum_div, coe_sum]
  refine Finset.sum_congr rfl fun i _ => ?_
  rw [hl, sum_exp s hs, zero_add, exp_sub_coe _ (hs i), hv i]
  unfold Ideal.div
  rw [if_neg (by rw [EReal.coe_eq_zero]; exact hp), ← EReal.coe_inv, ← EReal.coe_mul, ← EReal.coe_mul]
  congr 1
  rw [mul_inv, mul_mul_mul_comm, mul_inv_cancel₀ (Real.exp_pos _).ne', one_mul, div_eq_mul_inv]; ring

end Cert.KernelIdeal.Mla
-- ==== Proof.Payloads.lean ====
/-
  The kernel's vectors read at an index, on the extended reals: the scores of a query block against a key block, a step's
  new maximum, sum and weighted sum, and the block a query block's last step writes out.
-/
module

public import proofs.«01_k».proof.Proof.Body
public import proofs.«01_k».proof.Proof.Softmax
public import Idealize.ShloMosaic.Lib.ValueIdx
public import Idealize.ShloMosaic.Lib.MatmulPlain
public import Idealize.ShloMosaic.Lib.StableHlo.Predicate

@[expose] public section

set_option maxRecDepth 16384
set_option Elab.async false

noncomputable section

namespace Cert.KernelIdeal.Mla

open Cert.KernelIdeal Cert.KernelIdeal.Gen
open Idealize.ShloMosaic Idealize.ShloMosaic.ValueIdx
open scoped BigOperators

/-! ## The operations of a step, at an index -/

theorem negInf : Ideal.ofBits .f32 0xFF800000#32 = ⊥ := by simp [Ideal.ofBits, Ideal.ieee]

/-- A row's maximum, as a column. -/
theorem rowMax_apply (X : FVec Ideal S2048x512 .f32) (R : Fin 2048) :
    shapeCast S2048x1 (multiReduction .maximumf [1] S2048 X 0xFF800000#32 reduces_S2048x512_S2048 (.inl rfl) rfl) shapeCasts_S2048_S2048x1 (ix2 R (0 : Fin 1))
      = Finset.univ.fold max ⊥ (fun j : Fin 512 => X (ix2 R j)) := by
  refine (shapeCast_apply _ _ _ (ix1 R) (by rw [Shape.rowMajor_val_one, Shape.rowMajor_val_two]; show R.val = R.val * 1 + 0; omega)).trans ?_
  refine (Ideal.multiReduction_maximumf_single X _ reduces_S2048x512_S2048 (.inl rfl) rfl (ix1 R)).trans ?_
  show Finset.univ.fold max (Ideal.ofBits .f32 0xFF800000#32) _ = _
  rw [negInf]
  refine congrArg (fun f : Fin 512 → EReal => Finset.univ.fold max ⊥ f) (funext fun j => congrArg X ?_)
  funext a; apply Fin.ext
  match a with
  | ⟨0, _⟩ => rfl
  | ⟨1, _⟩ => rfl

/-- A row's sum, as a column. -/
theorem rowSum_apply (X : FVec Ideal S2048x512 .f32) (R : Fin 2048) :
    shapeCast S2048x1 (multiReduction .add [1] S2048 X 0x00000000#32 reduces_S2048x512_S2048 (.inl rfl) rfl) shapeCasts_S2048_S2048x1 (ix2 R (0 : Fin 1))
      = ∑ j : Fin 512, X (ix2 R j) := by
  refine (shapeCast_apply _ _ _ (ix1 R) (by rw [Shape.rowMajor_val_one, Shape.rowMajor_val_two]; show R.val = R.val * 1 + 0; omega)).trans ?_
  refine (Ideal.multiReduction_add_single X _ reduces_S2048x512_S2048 (.inl rfl) rfl (ix1 R)).trans ?_
  refine Finset.sum_congr rfl fun j _ => congrArg X ?_
  funext a; apply Fin.ext
  match a with
  | ⟨0, _⟩ => rfl
  | ⟨1, _⟩ => rfl

/-- A column spread over a row, of scores or of values. -/
theorem spread_scores (x : FVec Ideal S2048x1 .f32) (R : Fin 2048) (j : Fin 512) :
    broadcastTo S2048x512 x broadcasts_S2048x1_S2048x512 (ix2 R j) = x (ix2 R (0 : Fin 1)) :=
  broadcastTo_apply _ _ _ _ fun a => match a with
    | ⟨0, _⟩ => rfl
    | ⟨1, _⟩ => rfl
theorem spread_values (x : FVec Ideal S2048x1 .f32) (R : Fin 2048) (d : Fin 128) :
    broadcastTo S2048x128 x broadcasts_S2048x1_S2048x128 (ix2 R d) = x (ix2 R (0 : Fin 1)) :=
  broadcastTo_apply _ _ _ _ fun a => match a with
    | ⟨0, _⟩ => rfl
    | ⟨1, _⟩ => rfl

/-- A key block without its unit axis. -/
theorem keys_apply (k : Vec Ideal S1x512x256 .bf16) (j : Fin 512) (e : Fin 256) : k0_pay11 k (ix2 j e) = k (ix3 (0 : Fin 1) j e) := by
  show shapeCast S512x256 k shapeCasts_S1x512x256_S512x256 (ix2 j e) = _
  refine shapeCast_apply _ _ _ _ ?_
  rw [Shape.rowMajor_val_two, Shape.rowMajor_val_three]
  show (0 * 512 + j.val) * 256 + e.val = j.val * 256 + e.val
  omega

/-- The weighted values of a key block, summed. -/
theorem values_apply (p : FVec Ideal S2048x512 .bf16) (k : Vec Ideal S1x512x256 .bf16) (R : Fin 2048) (d : Fin 128) :
    matmul dot_S2048x512_S512x128_S2048x128_1_0_0_1_n_n none p
        (extractStridedSlice S512x128 ![0, 0] (k0_pay11 k) slices_S512x256_o0_0_S512x128 : FVec Ideal S512x128 .bf16)
        (constant S2048x128 .f32 0x00000000#32) (ix2 R d)
      = ∑ j : Fin 512, p (ix2 R j) * k (ix3 (0 : Fin 1) j (⟨d.val, by omega⟩ : Fin 256)) := by
  refine (Ideal.matmul_plain_apply (M := 2048) (K := 512) (N := 128) none p _ _ R d).trans ?_
  rw [constant_apply, Ideal.ofBits_zero_f32, zero_add]
  refine Finset.sum_congr rfl fun j _ => congrArg (p (ix2 R j) * ·) ?_
  refine (extractStridedSlice_apply _ _ _ _ (ix2 j (⟨d.val, by omega⟩ : Fin 256)) fun a => ?_).trans (keys_apply k _ _)
  match a with
  | ⟨0, _⟩ => exact (Nat.zero_add _).symm
  | ⟨1, _⟩ => exact (Nat.zero_add _).symm

/-! ## The scores -/

/-- Row `R` of a query block (its head, then its row) against column `j` of a key block. -/
def blkScore (k : Vec Ideal S1x512x256 .bf16) (q : Vec Ideal S1x8x256x256 .bf16) (R : Fin 2048) (j : Fin 512) : EReal :=
  ∑ e : Fin 256, q (ix4 (0 : Fin 1) (⟨R.val / 256, by omega⟩ : Fin 8) (⟨R.val % 256, by omega⟩ : Fin 256) e) * k (ix3 (0 : Fin 1) j e)

theorem scores_apply (k : Vec Ideal S1x512x256 .bf16) (q : Vec Ideal S1x8x256x256 .bf16) (R : Fin 2048) (j : Fin 512) :
    k0_pay17 k q (ix2 R j) = blkScore k q R j := by
  refine (Ideal.matmul_transposedRhs_apply (M := 2048) (K := 256) (N := 512) none _ _ _ R j).trans ?_
  rw [constant_apply, Ideal.ofBits_zero_f32, zero_add]
  refine Finset.sum_congr rfl fun e _ => congrArg₂ (· * ·) ?_ (keys_apply k j e)
  refine (shapeCast_apply _ _ _ (ix3 (⟨R.val / 256, by omega⟩ : Fin 8) (⟨R.val % 256, by omega⟩ : Fin 256) e) ?_).trans (shapeCast_apply _ _ _ _ ?_)
  · rw [Shape.rowMajor_val_two, Shape.rowMajor_val_three]
    show (R.val / 256 * 256 + R.val % 256) * 256 + e.val = R.val * 256 + e.val
    omega
  · rw [Shape.rowMajor_val_four, Shape.rowMajor_val_three]
    show ((0 * 8 + R.val / 256) * 256 + R.val % 256) * 256 + e.val = (R.val / 256 * 256 + R.val % 256) * 256 + e.val
    omega

/-- The row's number within its query block, as the kernel computes it. -/
def rowWord (x : BitVec 32) : BitVec 32 :=
  Scalar.select (IntOp.andi (IntOp.xori (IntOp.cmpi .slt (IntOp.remsi .vector x (Scalar.select (Scalar.cmpi .eq 256#32 0#32) 1#32 256#32)) 0#32)
      (Scalar.cmpi .slt (Scalar.select (Scalar.cmpi .eq 256#32 0#32) 1#32 256#32) 0#32))
    (IntOp.cmpi .ne (IntOp.remsi .vector x (Scalar.select (Scalar.cmpi .eq 256#32 0#32) 1#32 256#32)) 0#32))
    (IntOp.addi (IntOp.remsi .vector x (Scalar.select (Scalar.cmpi .eq 256#32 0#32) 1#32 256#32)) (Scalar.select (Scalar.cmpi .eq 256#32 0#32) 1#32 256#32))
    (IntOp.remsi .vector x (Scalar.select (Scalar.cmpi .eq 256#32 0#32) 1#32 256#32))

theorem rowWord_eq : ∀ R : Fin 2048, rowWord (BitVec.ofNat 32 R.val) = BitVec.ofNat 32 (R.val % 256) := by decide +kernel

theorem masked_apply (v1 v3 : BitVec 32) (h1 : v1.toNat < 32) (h3 : v3.toNat < 16) (k : Vec Ideal S1x512x256 .bf16) (q : Vec Ideal S1x8x256x256 .bf16)
    (R : Fin 2048) (j : Fin 512) :
    k0_pay12 v1 v3 k q (ix2 R j) = if v3.toNat * 512 + j.val ≤ v1.toNat * 256 + R.val % 256 then blkScore k q R j else ⊥ := by
  have e : k0_pay12 v1 v3 k q (ix2 R j)
      = Scalar.select (IntOp.cmpi .sle (IntOp.addi (Scalar.muli v3 512#32) (BitVec.ofNat 32 j.val)) (IntOp.addi (Scalar.muli v1 256#32) (rowWord (BitVec.ofNat 32 R.val))))
          (k0_pay17 k q (ix2 R j)) (Ideal.ofBits .f32 0xFF800000#32) := by
    have hr := iota_single_apply .tc S2048x512 32 0 iota_S2048x512_d0_w32 (ix2 R j)
    have hc := iota_single_apply .tc S2048x512 32 1 iota_S2048x512_d1_w32 (ix2 R j)
    rw [show BitVec.ofNat 32 R.val = iota .tc S2048x512 32 [0] iota_S2048x512_d0_w32 (ix2 R j) from hr.symm,
      show BitVec.ofNat 32 j.val = iota .tc S2048x512 32 [1] iota_S2048x512_d1_w32 (ix2 R j) from hc.symm]
    rfl
  have ha : (IntOp.addi (Scalar.muli v3 512#32) (BitVec.ofNat 32 j.val)).toNat = v3.toNat * 512 + j.val := by
    show (v3 * 512#32 + BitVec.ofNat 32 j.val).toNat = _
    rw [BitVec.toNat_add, BitVec.toNat_mul, BitVec.toNat_ofNat, BitVec.toNat_ofNat]; omega
  have hb : (IntOp.addi (Scalar.muli v1 256#32) (BitVec.ofNat 32 (R.val % 256))).toNat = v1.toNat * 256 + R.val % 256 := by
    show (v1 * 256#32 + BitVec.ofNat 32 (R.val % 256)).toNat = _
    rw [BitVec.toNat_add, BitVec.toNat_mul, BitVec.toNat_ofNat, BitVec.toNat_ofNat]; omega
  rw [e, rowWord_eq, negInf, scores_apply]
  have hs := StableHlo.Predicate.sle_iff_toNat (a := IntOp.addi (Scalar.muli v3 512#32) (BitVec.ofNat 32 j.val))
    (b := IntOp.addi (Scalar.muli v1 256#32) (BitVec.ofNat 32 (R.val % 256))) (by rw [ha]; omega) (by rw [hb]; omega)
  rw [ha, hb] at hs
  unfold Scalar.select
  by_cases h : v3.toNat * 512 + j.val ≤ v1.toNat * 256 + R.val % 256
  · exact (if_pos (hs.2 h)).trans (if_pos h).symm
  · exact (if_neg (fun x => h (hs.1 x))).trans (if_neg h).symm

/-! ## A step -/

/-- A row's maximum, sum and weighted sum, and a value of a key block, as extended reals. -/
def mAt (s : St Ideal) (R : Fin 2048) : EReal := s.m (ix2 R (0 : Fin 1))
def lAt (s : St Ideal) (R : Fin 2048) : EReal := s.l (ix2 R (0 : Fin 1))
def aAt (s : St Ideal) (R : Fin 2048) (d : Fin 128) : EReal := s.a (ix2 R d)
def vAt (k : Vec Ideal S1x512x256 .bf16) (j : Fin 512) (d : Fin 128) : EReal := k (ix3 (0 : Fin 1) j (⟨d.val, by omega⟩ : Fin 256))

/-- What a step with scores `X` makes of row `R`, at value `d`. -/
structure StepAt (X : Fin 512 → EReal) (k : Vec Ideal S1x512x256 .bf16) (s s' : St Ideal) (R : Fin 2048) (d : Fin 128) : Prop where
  m : mAt s' R = max (mAt s R) (Finset.univ.fold max ⊥ X)
  l : lAt s' R = Ideal.exp (mAt s R - mAt s' R) * lAt s R + ∑ j, Ideal.exp (X j - mAt s' R)
  a : aAt s' R d = Ideal.exp (mAt s R - mAt s' R) * aAt s R d + ∑ j, Ideal.exp (X j - mAt s' R) * vAt k j d

theorem shapeCast_id {t : Shape} {α : Type} (x : t.Idx → α) (h : t.ShapeCasts t) : shapeCast t x h = x :=
  funext fun i => shapeCast_apply _ _ _ _ rfl

theorem eq_of_cast {t : Shape} {α : Type} {y x : t.Idx → α} (h : t.ShapeCasts t) (e : y = shapeCast t x h) : y = x :=
  e.trans (shapeCast_id x h)

/-- Vectors built from scores `X` as both steps build them, at an index. -/
theorem step_of (X : FVec Ideal S2048x512 .f32) (M : FVec Ideal S2048x1 .f32) (k : Vec Ideal S1x512x256 .bf16) (s s' : St Ideal)
    (x : Fin 512 → EReal)
    (hM : M = maximumf s.m (shapeCast S2048x1 (multiReduction .maximumf [1] S2048 X 0xFF800000#32 reduces_S2048x512_S2048 (.inl rfl) rfl) shapeCasts_S2048_S2048x1))
    (hm : s'.m = M)
    (hl : s'.l = addf (mulf (exp (subf s.m M)) s.l) (shapeCast S2048x1 (multiReduction .add [1] S2048
      (exp (subf X (broadcastTo S2048x512 M broadcasts_S2048x1_S2048x512))) 0x00000000#32 reduces_S2048x512_S2048 (.inl rfl) rfl) shapeCasts_S2048_S2048x1))
    (ha : s'.a = addf (mulf (broadcastTo S2048x128 (exp (subf s.m M)) broadcasts_S2048x1_S2048x128) s.a)
      (matmul dot_S2048x512_S512x128_S2048x128_1_0_0_1_n_n none (truncf .bf16 (exp (subf X (broadcastTo S2048x512 M broadcasts_S2048x1_S2048x512))) bitsLt_bf16_f32)
        (extractStridedSlice S512x128 ![0, 0] (k0_pay11 k) slices_S512x256_o0_0_S512x128) (constant S2048x128 .f32 0x00000000#32)))
    (R : Fin 2048) (d : Fin 128) (hx : (fun j => X (ix2 R j)) = x) : StepAt x k s s' R d := by
  subst hx
  have em : mAt s' R = M (ix2 R (0 : Fin 1)) := congrFun hm _
  have hp : ∀ j : Fin 512, exp (subf X (broadcastTo S2048x512 M broadcasts_S2048x1_S2048x512)) (ix2 R j) = Ideal.exp (X (ix2 R j) - mAt s' R) := fun j => by
    rw [em, ← spread_scores M R j]; rfl
  refine ⟨?_, ?_, ?_⟩
  · rw [em, hM, maximumf_apply, rowMax_apply]; rfl
  · refine (congrFun hl _).trans ?_
    rw [addf_apply, rowSum_apply, em]
    exact congrArg₂ (fun a b : EReal => a + b) rfl (Finset.sum_congr rfl fun j _ => (hp j).trans (by rw [em]))
  · refine (congrFun ha _).trans ?_
    rw [addf_apply, values_apply, mulf_apply, spread_values]
    refine congrArg₂ (fun a b : EReal => a + b) ?_ (Finset.sum_congr rfl fun j _ => ?_)
    · rw [em]; rfl
    · rw [truncf_apply, hp]; rfl

theorem stepPlain_apply (k : Vec Ideal S1x512x256 .bf16) (q : Vec Ideal S1x8x256x256 .bf16) (s : St Ideal) (R : Fin 2048) (d : Fin 128) :
    StepAt (blkScore k q R) k s (stepPlain k q s) R d :=
  step_of (k0_pay17 k q) (k0_pay18 k q s.m) k s (stepPlain k q s) _ rfl (eq_of_cast shapeCasts_S2048x1_S2048x1 rfl)
    (eq_of_cast shapeCasts_S2048x1_S2048x1 rfl) (eq_of_cast shapeCasts_S2048x128_S2048x128 rfl) R d (funext fun j => scores_apply k q R j)

theorem stepMasked_apply (v1 v3 : BitVec 32) (h1 : v1.toNat < 32) (h3 : v3.toNat < 16) (k : Vec Ideal S1x512x256 .bf16) (q : Vec Ideal S1x8x256x256 .bf16) (s : St Ideal) (R : Fin 2048) (d : Fin 128) :
    StepAt (fun j => if v3.toNat * 512 + j.val ≤ v1.toNat * 256 + R.val % 256 then blkScore k q R j else ⊥) k s (stepMasked v1 v3 k q s) R d :=
  step_of (k0_pay12 v1 v3 k q) (k0_pay13 v1 v3 k q s.m) k s (stepMasked v1 v3 k q s) _ rfl (eq_of_cast shapeCasts_S2048x1_S2048x1 rfl)
    (eq_of_cast shapeCasts_S2048x1_S2048x1 rfl) (eq_of_cast shapeCasts_S2048x128_S2048x128 rfl) R d (funext fun j => masked_apply v1 v3 h1 h3 k q R j)

/-! ## The reset and the block written out -/

theorem init_m (R : Fin 2048) : mAt St.init R = ⊥ := by
  have e : (St.init (F := Ideal)).m = fun _ => Ideal.ofBits .f32 0xFF800000#32 := eq_of_cast shapeCasts_S2048x1_S2048x1 rfl
  exact (congrFun e _).trans negInf
theorem init_l (R : Fin 2048) : lAt St.init R = 0 := by
  have e : (St.init (F := Ideal)).l = fun _ => Ideal.ofBits .f32 0x00000000#32 := eq_of_cast shapeCasts_S2048x1_S2048x1 rfl
  exact (congrFun e _).trans Ideal.ofBits_zero_f32
theorem init_a (R : Fin 2048) (d : Fin 128) : aAt St.init R d = 0 := by
  have e : (St.init (F := Ideal)).a = fun _ => Ideal.ofBits .f32 0x00000000#32 := eq_of_cast shapeCasts_S2048x128_S2048x128 rfl
  exact (congrFun e _).trans Ideal.ofBits_zero_f32

theorem quot_apply (a : Vec Ideal S2048x128 .f32) (l : Vec Ideal S2048x1 .f32) (R : Fin 2048) (d : Fin 128) :
    k0_pay23 a l (ix2 R d) = Ideal.div (a (ix2 R d)) (l (ix2 R (0 : Fin 1))) := by
  rw [← spread_values l R d]; rfl

/-- A query block's result at row `r`, column `c`: the quotient of the row's head and value, the column's two parts. -/
def outAt (s : St Ideal) (y : S1x256x1024.Idx) : EReal :=
  Ideal.div (s.a (ix2 (⟨(y 2).val / 128 * 256 + (y 1).val, by have := (y 2).isLt; have := (y 1).isLt; simp at *; omega⟩ : Fin 2048) (⟨(y 2).val % 128, by omega⟩ : Fin 128)))
    (s.l (ix2 (⟨(y 2).val / 128 * 256 + (y 1).val, by have := (y 2).isLt; have := (y 1).isLt; simp at *; omega⟩ : Fin 2048) (0 : Fin 1)))

/-- One head's rows stored, at an index. -/
theorem piece_apply (s : St Ideal) (h : ℕ) (hh : h < 8) (off : Fin 2 → ℕ) (hoff : off = ![256 * h, 0]) (hs : S2048x128.Slices off S256x128)
    (o3 : Fin 3 → ℕ) (ho3 : o3 = ![0, 0, 128 * h]) (hi : ∀ a, o3 a + S1x256x128.size a ≤ S1x256x1024.size a) (x : S1x256x128.Idx) :
    shapeCast S1x256x128 (extractStridedSlice S256x128 off (k0_pay23 s.a s.l) hs) shapeCasts_S256x128_S1x256x128 x
      = outAt s ((Rect.unit (s := S1x256x1024) o3 S1x256x128.size hi).emb x) := by
  subst hoff ho3
  have h1 : (x 1).val < 256 := (x 1).isLt
  have h2 : (x 2).val < 128 := (x 2).isLt
  have h0 : (x 0).val < 1 := (x 0).isLt
  rw [shapeCast_apply _ _ _ (ix2 (⟨(x 1).val, h1⟩ : Fin 256) (⟨(x 2).val, h2⟩ : Fin 128)) (by
      rw [Shape.rowMajor_val_two, Shape.rowMajor_val_three]
      show (x 1).val * 128 + (x 2).val = ((x 0).val * 256 + (x 1).val) * 128 + (x 2).val
      omega),
    extractStridedSlice_apply _ _ _ _ (ix2 (⟨256 * h + (x 1).val, by omega⟩ : Fin 2048) (⟨(x 2).val, h2⟩ : Fin 128)) (fun a => by
      match a with
      | ⟨0, _⟩ => rfl
      | ⟨1, _⟩ => exact (Nat.zero_add _).symm), quot_apply]
  unfold outAt
  have e1 : (((Rect.unit (s := S1x256x1024) ![0, 0, 128 * h] S1x256x128.size hi).emb x) 1).val = 0 + 1 * (x 1).val := by rw [Rect.emb_apply]; rfl
  have e2 : (((Rect.unit (s := S1x256x1024) ![0, 0, 128 * h] S1x256x128.size hi).emb x) 2).val = 128 * h + 1 * (x 2).val := by rw [Rect.emb_apply]; rfl
  congr 3
  · simp only [e1, e2, Fin.mk.injEq]; omega
  · simp only [e2, Fin.mk.injEq]; omega
  · simp only [e1, e2, Fin.mk.injEq]; omega

theorem outBlk_apply (s : St Ideal) (y : S1x256x1024.Idx) : outBlk s y = outAt s y := by
  unfold outBlk
  refine View.canon_apply_of_pieces (outAt s) _ (fun p hp => ?_) y (outPieces_cover s.a s.l y)
  simp only [outPieces, List.mem_cons, List.not_mem_nil, or_false] at hp
  rcases hp with rfl | rfl | rfl | rfl | rfl | rfl | rfl | rfl
  · exact fun x => piece_apply s 7 (by decide) ![1792, 0] rfl slices_S2048x128_o1792_0_S256x128 ![0, 0, 896] rfl inb_S1x256x1024_S1x256x128_0_0_896 x
  · exact fun x => piece_apply s 6 (by decide) ![1536, 0] rfl slices_S2048x128_o1536_0_S256x128 ![0, 0, 768] rfl inb_S1x256x1024_S1x256x128_0_0_768 x
  · exact fun x => piece_apply s 5 (by decide) ![1280, 0] rfl slices_S2048x128_o1280_0_S256x128 ![0, 0, 640] rfl inb_S1x256x1024_S1x256x128_0_0_640 x
  · exact fun x => piece_apply s 4 (by decide) ![1024, 0] rfl slices_S2048x128_o1024_0_S256x128 ![0, 0, 512] rfl inb_S1x256x1024_S1x256x128_0_0_512 x
  · exact fun x => piece_apply s 3 (by decide) ![768, 0] rfl slices_S2048x128_o768_0_S256x128 ![0, 0, 384] rfl inb_S1x256x1024_S1x256x128_0_0_384 x
  · exact fun x => piece_apply s 2 (by decide) ![512, 0] rfl slices_S2048x128_o512_0_S256x128 ![0, 0, 256] rfl inb_S1x256x1024_S1x256x128_0_0_256 x
  · exact fun x => piece_apply s 1 (by decide) ![256, 0] rfl slices_S2048x128_o256_0_S256x128 ![0, 0, 128] rfl inb_S1x256x1024_S1x256x128_0_0_128 x
  · exact fun x => piece_apply s 0 (by decide) ![0, 0] rfl slices_S2048x128_o0_0_S256x128 ![0, 0, 0] rfl inb_S1x256x1024_S1x256x128_0_0_0 x

end Cert.KernelIdeal.Mla
-- ==== Proof.Blocks.lean ====
/-
  Which part of the arrays each point reads and writes: its batch, its query block and its key block, how they go from one
  point to the next, and the entries of the blocks read.
-/
module

public import proofs.«01_k».proof.Proof.Points
public import Idealize.ShloMosaic.Lib.ValueIdx

@[expose] public section

set_option maxRecDepth 16384
set_option Elab.async false

noncomputable section

namespace Cert.KernelIdeal.Mla

open Cert.KernelIdeal Cert.KernelIdeal.Gen
open Idealize.ShloMosaic Idealize.ShloMosaic.ValueIdx
open Idealize.ShloMosaic.TcCoe Idealize.ShloMosaic.Tactic
open Idealize.SL Idealize.SL.Sem

variable {F : FTy → Type} [FloatOps F]

theorem N_eq : (cfgA F).N = 544 := rfl

/-- The `n`-th point. -/
def pt (n : Fin 544) : Fin (cfgA F).N := n.cast N_eq.symm

/-- A point's batch, query block and key block, as numbers. -/
abbrev bn (t : Fin (cfgA F).N) : ℕ := ((crd t) 0).val
abbrev qn (t : Fin (cfgA F).N) : ℕ := (qw t).toNat
abbrev kn (t : Fin (cfgA F).N) : ℕ := (kw t).toNat

/-- What the tables say at a point: where its blocks lie, which points take a first key block, and how far a key block
    reaches against its query block. -/
abbrev BlockFacts (t : Fin (cfgA F).N) : Prop :=
  (((cfgA F).win (0 : Fin 3)).index t = ![bn t, 0, qn t, 0] ∧ ((cfgA F).win (1 : Fin 3)).index t = ![bn t, kn t, 0]
    ∧ ((cfgA F).win (2 : Fin 3)).index t = ![bn t, qn t, 0])
  ∧ bn t < 2 ∧ qn t < 32 ∧ kn t < 16
  ∧ (isFirst (kw t) → kn t = 0)
  ∧ (crosses (qw t) (kw t) → qn t * 256 + 256 ≤ (kn t + 1) * 512)
  ∧ (¬ crosses (qw t) (kw t) → kn t * 512 + 511 ≤ qn t * 256)

theorem blockFacts : ∀ t : Fin (cfgA F).N, BlockFacts t := of_decide_eq_true (by sl_kernel_rfl)

end Cert.KernelIdeal.Mla
-- ==== Proof.Order.lean ====
/-
  How the key blocks go from one point to the next, and at which point a query block's result is written back.
-/
module

public import proofs.«01_k».proof.Proof.Blocks
public import Idealize.ShloMosaic.Lib.ValueIdx

@[expose] public section

set_option maxRecDepth 16384
set_option Elab.async false

noncomputable section

namespace Cert.KernelIdeal.Mla

open Cert.KernelIdeal Cert.KernelIdeal.Gen
open Idealize.ShloMosaic Idealize.ShloMosaic.ValueIdx
open Idealize.ShloMosaic.TcCoe Idealize.ShloMosaic.Tactic
open Idealize.SL Idealize.SL.Sem

variable {F : FTy → Type} [FloatOps F]

/-- A point whose key block is not the first continues the point before it. -/
theorem goesOn : ∀ n : Fin 543, ¬ isFirst (kw (F := F) (pt n.succ)) →
    bn (F := F) (pt n.succ) = bn (F := F) (pt n.castSucc)
    ∧ qn (F := F) (pt n.succ) = qn (F := F) (pt n.castSucc)
    ∧ kn (F := F) (pt n.succ) = kn (F := F) (pt n.castSucc) + 1 :=
  of_decide_eq_true (by sl_kernel_rfl)

/-- The point at which a query block's result is written back. -/
def lastPoint (b : Fin 2) (q : Fin 32) : Fin 544 :=
  ⟨b.val * 272 + ((q.val / 2 + 1) * (q.val / 2) + q.val / 2 + (q.val % 2) * (q.val / 2 + 1)), by
    have h : q.val / 2 ≤ 15 := by omega
    have h2 : q.val % 2 ≤ 1 := by omega
    have := Nat.mul_le_mul (Nat.add_le_add_right h 1) h
    have := Nat.mul_le_mul h2 (Nat.add_le_add_right h 1)
    omega⟩

theorem lastPoint_spec : ∀ (b : Fin 2) (q : Fin 32),
    bn (F := F) (pt (lastPoint b q)) = b.val ∧ qn (F := F) (pt (lastPoint b q)) = q.val ∧ crosses (qw (F := F) (pt (lastPoint b q))) (kw (F := F) (pt (lastPoint b q))) :=
  of_decide_eq_true (by sl_kernel_rfl)

end Cert.KernelIdeal.Mla
-- ==== Proof.Invariant.lean ====
/-
  What the scratch vectors hold after each point, on the extended reals and for real arguments: of every row, the columns
  up to the end of the point's key block, taken in.
-/
module

public import proofs.«01_k».proof.Proof.Payloads
public import proofs.«01_k».proof.Proof.Blocks
public import proofs.«01_k».proof.Proof.Order

@[expose] public section

set_option maxRecDepth 16384
set_option Elab.async false

noncomputable section

namespace Cert.KernelIdeal.Mla

open Cert.KernelIdeal Cert.KernelIdeal.Gen
open Idealize.ShloMosaic Idealize.ShloMosaic.ValueIdx
open Idealize.ShloMosaic.TcCoe Idealize.ShloMosaic.Tactic
open Idealize.SL Idealize.SL.Sem
open scoped BigOperators

/-! ## The attention, on whole arrays -/

/-- Query `i` of head `h` against key `j`. -/
def score (Q : S2x8x8192x256.Idx → EReal) (K : S2x8192x256.Idx → EReal) (b : Fin 2) (h : Fin 8) (i j : Fin 8192) : EReal :=
  ∑ e : Fin 256, Q (ix4 b h i e) * K (ix3 b j e)

/-- The same behind the causal mask, for any column number. -/
def causal (Q : S2x8x8192x256.Idx → EReal) (K : S2x8192x256.Idx → EReal) (b : Fin 2) (h : Fin 8) (i : Fin 8192) (j : ℕ) : EReal :=
  if hj : j < 8192 then if j ≤ i.val then score Q K b h i ⟨j, hj⟩ else ⊥ else ⊥

/-- Value `d` of key `j`, as a real. -/
def value (K : S2x8192x256.Idx → EReal) (b : Fin 2) (d : Fin 128) (j : ℕ) : ℝ :=
  if hj : j < 8192 then (K (ix3 b (⟨j, hj⟩ : Fin 8192) (⟨d.val, by omega⟩ : Fin 256))).toReal else 0

/-- No entry is infinite. -/
def Real' {ι : Type} (x : ι → EReal) : Prop := ∀ i, x i ≠ ⊤ ∧ x i ≠ ⊥

theorem coe_of {x : EReal} (h : x ≠ ⊤ ∧ x ≠ ⊥) : x = (x.toReal : EReal) := (EReal.coe_toReal h.1 h.2).symm

section
variable {Q : S2x8x8192x256.Idx → EReal} {K : S2x8192x256.Idx → EReal}

theorem score_real (hQ : Real' Q) (hK : Real' K) (b : Fin 2) (h : Fin 8) (i j : Fin 8192) : score Q K b h i j ≠ ⊤ ∧ score Q K b h i j ≠ ⊥ := by
  have e : score Q K b h i j = ((∑ e : Fin 256, (Q (ix4 b h i e)).toReal * (K (ix3 b j e)).toReal : ℝ) : EReal) := by
    rw [coe_sum]
    refine Finset.sum_congr rfl fun e _ => ?_
    rw [EReal.coe_mul, ← coe_of (hQ _), ← coe_of (hK _)]
  rw [e]; exact ⟨EReal.coe_ne_top _, EReal.coe_ne_bot _⟩

theorem causal_ne_top (hQ : Real' Q) (hK : Real' K) (b : Fin 2) (h : Fin 8) (i : Fin 8192) (j : ℕ) : causal Q K b h i j ≠ ⊤ := by
  unfold causal; split
  · split
    · exact (score_real hQ hK _ _ _ _).1
    · exact bot_ne_top
  · exact bot_ne_top

theorem causal_zero (hQ : Real' Q) (hK : Real' K) (b : Fin 2) (h : Fin 8) (i : Fin 8192) : causal Q K b h i 0 ≠ ⊥ := by
  unfold causal; rw [dif_pos (by decide), if_pos (Nat.zero_le _)]; exact (score_real hQ hK _ _ _ _).2

/-- The weights of the first `n` columns, summed; and their weighted values. -/
def wsum (Q : S2x8x8192x256.Idx → EReal) (K : S2x8192x256.Idx → EReal) (b : Fin 2) (h : Fin 8) (i : Fin 8192) (n : ℕ) : ℝ :=
  ∑ j ∈ Finset.range n, wgt (causal Q K b h i j)
def vsum (Q : S2x8x8192x256.Idx → EReal) (K : S2x8192x256.Idx → EReal) (b : Fin 2) (h : Fin 8) (i : Fin 8192) (d : Fin 128) (n : ℕ) : ℝ :=
  ∑ j ∈ Finset.range n, wgt (causal Q K b h i j) * value K b d j

theorem wgt_after (Q : S2x8x8192x256.Idx → EReal) (K : S2x8192x256.Idx → EReal) (b : Fin 2) (h : Fin 8) (i : Fin 8192) (j : ℕ) (hj : i.val < j) :
    wgt (causal Q K b h i j) = 0 := by
  unfold causal; split
  · rw [if_neg (by omega)]; exact wgt_bot
  · exact wgt_bot

/-- The columns past the row's own add nothing. -/
theorem wsum_all (b : Fin 2) (h : Fin 8) (i : Fin 8192) (n : ℕ) (hn : i.val < n) (hn' : n ≤ 8192) : wsum Q K b h i n = wsum Q K b h i 8192 :=
  Finset.sum_subset (Finset.range_subset_range.2 hn') fun j _ hj => wgt_after Q K b h i j (by simp only [Finset.mem_range] at hj; omega)
theorem vsum_all (b : Fin 2) (h : Fin 8) (i : Fin 8192) (d : Fin 128) (n : ℕ) (hn : i.val < n) (hn' : n ≤ 8192) : vsum Q K b h i d n = vsum Q K b h i d 8192 :=
  Finset.sum_subset (Finset.range_subset_range.2 hn') fun j _ hj => by
    rw [wgt_after Q K b h i j (by simp only [Finset.mem_range] at hj; omega), zero_mul]

theorem wsum_pos (hQ : Real' Q) (hK : Real' K) (b : Fin 2) (h : Fin 8) (i : Fin 8192) : 0 < wsum Q K b h i 8192 :=
  Finset.sum_pos' (fun j _ => wgt_nonneg _ (causal_ne_top hQ hK b h i j))
    ⟨0, by decide, wgt_pos _ (causal_ne_top hQ hK b h i 0) (causal_zero hQ hK b h i)⟩

theorem wsum_block (b : Fin 2) (h : Fin 8) (i : Fin 8192) (k : ℕ) :
    wsum Q K b h i ((k + 1) * 512) = wsum Q K b h i (k * 512) + ∑ j : Fin 512, wgt (causal Q K b h i (k * 512 + j.val)) := by
  unfold wsum
  rw [Nat.add_mul, Nat.one_mul, Finset.sum_range_add, Finset.sum_range (n := 512)]
theorem vsum_block (b : Fin 2) (h : Fin 8) (i : Fin 8192) (d : Fin 128) (k : ℕ) :
    vsum Q K b h i d ((k + 1) * 512) = vsum Q K b h i d (k * 512)
      + ∑ j : Fin 512, wgt (causal Q K b h i (k * 512 + j.val)) * value K b d (k * 512 + j.val) := by
  unfold vsum
  rw [Nat.add_mul, Nat.one_mul, Finset.sum_range_add, Finset.sum_range (n := 512)]

end

/-! ## The blocks a point reads -/

variable (m : (ℓ : Loc nD τ sig) → Buf (Elt Ideal) ℓ) (c : Dev nD)

/-- The arguments, as the arrays of extended reals they are. -/
abbrev argQ : S2x8x8192x256.Idx → EReal := m ((c : Thread nD τ).loc main_arg0)
abbrev argK : S2x8192x256.Idx → EReal := m ((c : Thread nD τ).loc main_arg1)

/-- A point's batch, and the row of the array a row of its scratch vectors stands for. -/
def bt (t : Fin (cfgA Ideal).N) : Fin 2 := ⟨bn t, (blockFacts t).2.1⟩
def hd (R : Fin 2048) : Fin 8 := ⟨R.val / 256, by omega⟩
def rw' (t : Fin (cfgA Ideal).N) (R : Fin 2048) : Fin 8192 := ⟨qn t * 256 + R.val % 256, by have := (blockFacts t).2.2.1; omega⟩

theorem queries_apply (t : Fin (cfgA Ideal).N) (R : Fin 2048) (e : Fin 256) :
    (iblk m c (0 : Fin 3) t : Vec Ideal S1x8x256x256 .bf16) (ix4 (0 : Fin 1) (⟨R.val / 256, by omega⟩ : Fin 8) (⟨R.val % 256, by omega⟩ : Fin 256) e)
      = argQ m c (ix4 (bt t) (hd R) (rw' t R) e) := by
  have hi := (blockFacts t).1.1
  unfold iblk
  rw [View.read_apply]
  show m ((c : Thread nD τ).loc main_arg0) _ = m ((c : Thread nD τ).loc main_arg0) _
  refine congrArg _ (funext fun a => Fin.ext ?_)
  match a with
  | ⟨0, _⟩ => show ((cfgA Ideal).win (0 : Fin 3)).index t 0 * 1 + 1 * 0 = bn t; rw [hi]; show bn t * 1 + 1 * 0 = _; omega
  | ⟨1, _⟩ => show ((cfgA Ideal).win (0 : Fin 3)).index t 1 * 8 + 1 * (R.val / 256) = R.val / 256; rw [hi]; show 0 * 8 + 1 * (R.val / 256) = _; omega
  | ⟨2, _⟩ => show ((cfgA Ideal).win (0 : Fin 3)).index t 2 * 256 + 1 * (R.val % 256) = qn t * 256 + R.val % 256; rw [hi]; show qn t * 256 + 1 * (R.val % 256) = _; omega
  | ⟨3, _⟩ => show ((cfgA Ideal).win (0 : Fin 3)).index t 3 * 256 + 1 * e.val = e.val; rw [hi]; show 0 * 256 + 1 * e.val = _; omega

theorem keyRow_lt (t : Fin (cfgA Ideal).N) (j : Fin 512) : kn t * 512 + j.val < 8192 := by have := (blockFacts t).2.2.2.1; omega

theorem keysAt_apply (t : Fin (cfgA Ideal).N) (j : Fin 512) (e : Fin 256) :
    (iblk m c (1 : Fin 3) t : Vec Ideal S1x512x256 .bf16) (ix3 (0 : Fin 1) j e)
      = argK m c (ix3 (bt t) (⟨kn t * 512 + j.val, keyRow_lt t j⟩ : Fin 8192) e) := by
  have hi := (blockFacts t).1.2.1
  unfold iblk
  rw [View.read_apply]
  show m ((c : Thread nD τ).loc main_arg1) _ = m ((c : Thread nD τ).loc main_arg1) _
  refine congrArg _ (funext fun a => Fin.ext ?_)
  match a with
  | ⟨0, _⟩ => show ((cfgA Ideal).win (1 : Fin 3)).index t 0 * 1 + 1 * 0 = bn t; rw [hi]; show bn t * 1 + 1 * 0 = _; omega
  | ⟨1, _⟩ => show ((cfgA Ideal).win (1 : Fin 3)).index t 1 * 512 + 1 * j.val = kn t * 512 + j.val; rw [hi]; show kn t * 512 + 1 * j.val = _; omega
  | ⟨2, _⟩ => show ((cfgA Ideal).win (1 : Fin 3)).index t 2 * 256 + 1 * e.val = e.val; rw [hi]; show 0 * 256 + 1 * e.val = _; omega

theorem blkScore_apply (t : Fin (cfgA Ideal).N) (R : Fin 2048) (j : Fin 512) :
    blkScore (iblk m c (1 : Fin 3) t) (iblk m c (0 : Fin 3) t) R j
      = score (argQ m c) (argK m c) (bt t) (hd R) (rw' t R) ⟨kn t * 512 + j.val, keyRow_lt t j⟩ :=
  Finset.sum_congr rfl fun e _ => congrArg₂ (· * ·) (queries_apply m c t R e) (keysAt_apply m c t j e)

/-! ## A point, and all of them -/

/-- One point's step, masked or not, takes the causal scores in. -/
theorem step_apply (t : Fin (cfgA Ideal).N) (s : St Ideal) (R : Fin 2048) (d : Fin 128) :
    StepAt (fun j => causal (argQ m c) (argK m c) (bt t) (hd R) (rw' t R) (kn t * 512 + j.val)) (iblk m c (1 : Fin 3) t)
      (if isFirst (kw t) then St.init else s) (step m c t s) R d := by
  obtain ⟨-, -, hq, hk, -, -, hno⟩ := blockFacts t
  by_cases h : crosses (qw t) (kw t)
  · have e : step m c t s = stepMasked (qw t) (kw t) (iblk m c (1 : Fin 3) t) (iblk m c (0 : Fin 3) t) (if isFirst (kw t) then St.init else s) := by
      unfold step; rw [if_pos h]
    rw [e, show (fun j : Fin 512 => causal (argQ m c) (argK m c) (bt t) (hd R) (rw' t R) (kn t * 512 + j.val))
      = fun j => if (kw t).toNat * 512 + j.val ≤ (qw t).toNat * 256 + R.val % 256
          then blkScore (iblk m c (1 : Fin 3) t) (iblk m c (0 : Fin 3) t) R j else ⊥ from funext fun j => by
        unfold causal; rw [dif_pos (keyRow_lt t j), blkScore_apply]; rfl]
    exact stepMasked_apply (qw t) (kw t) hq hk _ _ _ R d
  · have e : step m c t s = stepPlain (iblk m c (1 : Fin 3) t) (iblk m c (0 : Fin 3) t) (if isFirst (kw t) then St.init else s) := by
      unfold step; rw [if_neg h]
    rw [e, show (fun j : Fin 512 => causal (argQ m c) (argK m c) (bt t) (hd R) (rw' t R) (kn t * 512 + j.val))
      = blkScore (iblk m c (1 : Fin 3) t) (iblk m c (0 : Fin 3) t) R from funext fun j => by
        have hj : kn t * 512 + j.val ≤ (rw' t R).val := by
          have := hno h
          show kn t * 512 + j.val ≤ qn t * 256 + R.val % 256
          omega
        unfold causal; rw [dif_pos (keyRow_lt t j), if_pos hj, blkScore_apply]]
    exact stepPlain_apply _ _ _ R d

/-- A key block's values are the array's. -/
theorem valuesAt (hK : Real' (argK m c)) (t : Fin (cfgA Ideal).N) (d : Fin 128) (j : Fin 512) :
    vAt (iblk m c (1 : Fin 3) t) j d = (value (argK m c) (bt t) d (kn t * 512 + j.val) : EReal) := by
  unfold vAt value
  rw [keysAt_apply, dif_pos (keyRow_lt t j)]
  exact coe_of (hK _)

/-- After point `t`, row `R` knows its columns up to the end of the key block. -/
def Known (t : Fin (cfgA Ideal).N) (R : Fin 2048) (d : Fin 128) : Prop :=
  Rep (wsum (argQ m c) (argK m c) (bt t) (hd R) (rw' t R) ((kn t + 1) * 512)) (vsum (argQ m c) (argK m c) (bt t) (hd R) (rw' t R) d ((kn t + 1) * 512))
    (mAt (stAt m c (t.val + 1)) R) (lAt (stAt m c (t.val + 1)) R) (aAt (stAt m c (t.val + 1)) R d)

theorem known_first (hQ : Real' (argQ m c)) (hK : Real' (argK m c)) (t : Fin (cfgA Ideal).N) (R : Fin 2048) (d : Fin 128)
    (h : isFirst (kw t)) : Known m c t R d := by
  have hs := step_apply m c t (stAt m c t.val) R d
  rw [if_pos h] at hs
  have hk : kn t = 0 := (blockFacts t).2.2.2.2.1 h
  obtain ⟨em, el, ea⟩ := hs
  rw [init_m] at em el ea
  rw [init_l] at el
  rw [init_a] at ea
  unfold Known
  rw [stAt_succ, el, ea, wsum_block, vsum_block]
  have r := Rep.first (fun j : Fin 512 => causal (argQ m c) (argK m c) (bt t) (hd R) (rw' t R) (kn t * 512 + j.val))
    (fun j => causal_ne_top hQ hK _ _ _ _) 0 (by rw [hk]; exact causal_zero hQ hK _ _ _)
    (fun j : Fin 512 => vAt (iblk m c (1 : Fin 3) t) j d)
    (fun j : Fin 512 => value (argK m c) (bt t) d (kn t * 512 + j.val)) (fun j => valuesAt m c hK t d j) _ em
  rw [show wsum (argQ m c) (argK m c) (bt t) (hd R) (rw' t R) (kn t * 512) = 0 by rw [hk]; rfl,
    show vsum (argQ m c) (argK m c) (bt t) (hd R) (rw' t R) d (kn t * 512) = 0 by rw [hk]; rfl]
  exact r

theorem known_next (hQ : Real' (argQ m c)) (hK : Real' (argK m c)) (n : Fin 543) (R : Fin 2048) (d : Fin 128)
    (h : ¬ isFirst (kw (F := Ideal) (pt n.succ))) (ih : Known m c (pt n.castSucc) R d) : Known m c (pt n.succ) R d := by
  have hs := step_apply m c (pt n.succ) (stAt m c (pt (F := Ideal) n.succ).val) R d
  rw [if_neg h] at hs
  obtain ⟨hb, hq, hk⟩ := goesOn (F := Ideal) n h
  have eb : bt (pt n.castSucc) = bt (pt n.succ) := Fin.ext hb.symm
  have er : rw' (pt n.castSucc) R = rw' (pt n.succ) R := Fin.ext (by
    show qn (F := Ideal) (pt n.castSucc) * 256 + _ = qn (F := Ideal) (pt n.succ) * 256 + _; rw [hq])
  unfold Known at ih ⊢
  rw [eb, er, ← hk, show (pt (F := Ideal) n.castSucc).val + 1 = (pt (F := Ideal) n.succ).val from rfl] at ih
  obtain ⟨em, el, ea⟩ := hs
  rw [stAt_succ, el, ea, wsum_block, vsum_block]
  exact ih.step (fun j : Fin 512 => causal (argQ m c) (argK m c) (bt (pt n.succ)) (hd R) (rw' (pt n.succ) R) (kn (F := Ideal) (pt n.succ) * 512 + j.val))
    (fun j => causal_ne_top hQ hK _ _ _ _)
    (fun j : Fin 512 => vAt (iblk m c (1 : Fin 3) (pt n.succ)) j d)
    (fun j : Fin 512 => value (argK m c) (bt (pt n.succ)) d (kn (F := Ideal) (pt n.succ) * 512 + j.val)) (fun j => valuesAt m c hK (pt n.succ) d j) _ em

theorem known (hQ : Real' (argQ m c)) (hK : Real' (argK m c)) (R : Fin 2048) (d : Fin 128) : ∀ (n : ℕ) (hn : n < 544), Known m c (pt ⟨n, hn⟩) R d
  | 0, hn => known_first m c hQ hK _ R d ((pointFacts (F := Ideal) (pt ⟨0, hn⟩)).1 rfl)
  | n + 1, hn => by
    by_cases h : isFirst (kw (F := Ideal) (pt ⟨n + 1, hn⟩))
    · exact known_first m c hQ hK _ R d h
    · exact known_next m c hQ hK ⟨n, by omega⟩ R d h (known hQ hK R d n (by omega))

/-- The quotient a query block's last point writes out. -/
theorem quotient (hQ : Real' (argQ m c)) (hK : Real' (argK m c)) (t : Fin (cfgA Ideal).N) (h : crosses (qw t) (kw t)) (R : Fin 2048) (d : Fin 128) :
    Ideal.div (aAt (stAt m c (t.val + 1)) R d) (lAt (stAt m c (t.val + 1)) R)
      = ((vsum (argQ m c) (argK m c) (bt t) (hd R) (rw' t R) d 8192 / wsum (argQ m c) (argK m c) (bt t) (hd R) (rw' t R) 8192 : ℝ) : EReal) := by
  have hc := (blockFacts t).2.2.2.2.2.1 h
  have h3 := (blockFacts t).2.2.2.1
  have k : Known m c t R d := known m c hQ hK R d t.val t.isLt
  unfold Known at k
  have hr : (rw' t R).val < (kn t + 1) * 512 := by show qn t * 256 + R.val % 256 < _; omega
  rw [wsum_all _ _ _ _ hr (by omega), vsum_all _ _ _ _ _ hr (by omega)] at k
  exact k.div (wsum_pos hQ hK _ _ _)

end Cert.KernelIdeal.Mla
-- ==== Proof.Result.lean ====
/-
  The result array of the whole run, on the extended reals and for real arguments.
-/
module

public import proofs.«01_k».proof.Proof.Invariant
public import proofs.«01_k».proof.Proof.Run

@[expose] public section

set_option maxRecDepth 16384
set_option Elab.async false

noncomputable section

namespace Cert.KernelIdeal.Mla

open Cert.KernelIdeal Cert.KernelIdeal.Gen
open Idealize.ShloMosaic Idealize.ShloMosaic.ValueIdx
open Idealize.ShloMosaic.TcCoe Idealize.ShloMosaic.Tactic
open Idealize.SL Idealize.SL.Sem
open Idealize.ShloMosaic.Pipeline (Dat)
open scoped BigOperators

/-- The attention: of row `i` and head `h`, the weighted values over the weights. -/
def attn (Q : S2x8x8192x256.Idx → EReal) (K : S2x8192x256.Idx → EReal) (b : Fin 2) (h : Fin 8) (i : Fin 8192) (d : Fin 128) : EReal :=
  ((vsum Q K b h i d 8192 / wsum Q K b h i 8192 : ℝ) : EReal)

theorem headOf_lt (x : Fin 1024) : x.val / 128 < 8 := by omega
theorem valueOf_lt (x : Fin 1024) : x.val % 128 < 128 := by omega

/-- The result array: a column is a head and a value. -/
def attnArr (Q : S2x8x8192x256.Idx → EReal) (K : S2x8192x256.Idx → EReal) : S2x8192x1024.Idx → EReal := fun y =>
  attn Q K (y 0) ⟨(y 2).val / 128, headOf_lt (y 2)⟩ (y 1) ⟨(y 2).val % 128, valueOf_lt (y 2)⟩

variable (m : (ℓ : Loc nD τ sig) → Buf (Elt Ideal) ℓ) (ρ : Dev nD → PrngReg) (c : Dev nD)

/-- The block written back at a query block's last point is the result's. -/
theorem written (hQ : Real' (argQ m c)) (hK : Real' (argK m c)) (t : Fin (cfgA Ideal).N) (h : crosses (qw t) (kw t)) (y : S1x256x1024.Idx)
    (Y : S2x8192x1024.Idx) (e0 : (Y 0).val = bn t) (e1 : (Y 1).val = qn t * 256 + (y 1).val) (e2 : (Y 2).val = (y 2).val) :
    outBlk (stAt m c (t.val + 1)) y = attnArr (argQ m c) (argK m c) Y := by
  have h1 : (y 1).val < 256 := (y 1).isLt
  have h2 : (y 2).val < 1024 := (y 2).isLt
  rw [outBlk_apply]
  refine (quotient m c hQ hK t h _ _).trans ?_
  unfold attnArr attn
  have eb : Y 0 = bt t := Fin.ext e0
  have er : Y 1 = rw' t (⟨(y 2).val / 128 * 256 + (y 1).val, by omega⟩ : Fin 2048) := Fin.ext (by
    rw [e1]; show _ = qn t * 256 + ((y 2).val / 128 * 256 + (y 1).val) % 256; omega)
  have eh : (⟨(Y 2).val / 128, headOf_lt (Y 2)⟩ : Fin 8) = hd (⟨(y 2).val / 128 * 256 + (y 1).val, by omega⟩ : Fin 2048) := Fin.ext (by
    show (Y 2).val / 128 = ((y 2).val / 128 * 256 + (y 1).val) / 256; rw [e2]; omega)
  have ed : (⟨(Y 2).val % 128, valueOf_lt (Y 2)⟩ : Fin 128) = ⟨(y 2).val % 128, by omega⟩ := Fin.ext (by show (Y 2).val % 128 = _; rw [e2])
  rw [eb, er, eh, ed]

theorem flushed_eq (hQ : Real' (argQ m c)) (hK : Real' (argK m c)) (t : Fin (cfgA Ideal).N) (hf : ((cfgA Ideal).win (2 : Fin 3)).flush t = true) :
    (dats m 0 c).flushed (2 : Fin 3) t = (((cfgA Ideal).win (2 : Fin 3)).blk t).view.read (Elt Ideal) (attnArr (argQ m c) (argK m c)) := by
  have h : crosses (qw t) (kw t) := by
    by_contra h
    rw [((pointFacts t).2.2 h).2.2.2] at hf; exact Bool.false_ne_true hf
  have hi := (blockFacts t).1.2.2
  refine Eq.trans (b := ((dats m 0 c).after (2 : Fin 3) t : S1x256x1024.Idx → Elt Ideal .f32)) rfl ?_
  rw [after2]
  funext y
  rw [View.read_apply]
  refine written m c hQ hK t h y _ ?_ ?_ ?_
  · show ((cfgA Ideal).win (2 : Fin 3)).index t 0 * 1 + 1 * (y 0).val = bn t
    have : (y 0).val < 1 := (y 0).isLt
    rw [hi]; show bn t * 1 + 1 * (y 0).val = _; omega
  · show ((cfgA Ideal).win (2 : Fin 3)).index t 1 * 256 + 1 * (y 1).val = qn t * 256 + (y 1).val
    rw [hi]; show qn t * 256 + 1 * (y 1).val = _; omega
  · show ((cfgA Ideal).win (2 : Fin 3)).index t 2 * 1024 + 1 * (y 2).val = (y 2).val
    rw [hi]; show 0 * 1024 + 1 * (y 2).val = _; omega

/-- The blocks written back cover the array. -/
theorem final_o (hQ : Real' (argQ m c)) (hK : Real' (argK m c)) : (dats m 0 c).arrAt (2 : Fin 3) (cfgA Ideal).N = attnArr (argQ m c) (argK m c) :=
  (dats m 0 c).arrAt_eq_of_cover (2 : Fin 3) (attnArr (argQ m c) (argK m c)) (flushed_eq m c hQ hK) fun (i : S2x8192x1024.Idx) => by
    have h0 : (i 0).val < 2 := (i 0).isLt
    have h1 : (i 1).val < 8192 := (i 1).isLt
    have h2 : (i 2).val < 1024 := (i 2).isLt
    obtain ⟨hb, hq, hc⟩ := lastPoint_spec (F := Ideal) ⟨(i 0).val, h0⟩ ⟨(i 1).val / 256, by omega⟩
    generalize pt (F := Ideal) (lastPoint ⟨(i 0).val, h0⟩ ⟨(i 1).val / 256, by omega⟩) = t at hb hq hc
    have hi := (blockFacts t).1.2.2
    have hq : qn t = (i 1).val / 256 := hq
    refine ⟨t, ((pointFacts t).2.1 hc).2.2.2, ?_⟩
    show i ∈ ((View.whole main_v0).slice (((cfgA Ideal).win (2 : Fin 3)).rect t)).set
    rw [View.set_slice_whole, Rect.mem_set_unit]
    intro a
    match a with
    | ⟨0, _⟩ =>
      show ((cfgA Ideal).win (2 : Fin 3)).index t 0 * 1 ≤ (i 0).val ∧ (i 0).val < ((cfgA Ideal).win (2 : Fin 3)).index t 0 * 1 + 1
      rw [hi]; show bn t * 1 ≤ _ ∧ _ < bn t * 1 + 1; rw [hb]; constructor <;> simp
    | ⟨1, _⟩ =>
      show ((cfgA Ideal).win (2 : Fin 3)).index t 1 * 256 ≤ (i 1).val ∧ (i 1).val < ((cfgA Ideal).win (2 : Fin 3)).index t 1 * 256 + 256
      rw [hi]; show qn t * 256 ≤ _ ∧ _ < qn t * 256 + 256; rw [hq]; omega
    | ⟨2, _⟩ =>
      show ((cfgA Ideal).win (2 : Fin 3)).index t 2 * 1024 ≤ (i 2).val ∧ (i 2).val < ((cfgA Ideal).win (2 : Fin 3)).index t 2 * 1024 + 1024
      rw [hi]; show 0 * 1024 ≤ _ ∧ _ < 0 * 1024 + 1024; omega

/-- The run, read: the result array, and the arguments unchanged. -/
theorem run_value (hR : ∀ c, Real' (argQ m c) ∧ Real' (argK m c)) :
    θ_run (defs (F := Ideal)) (onTc (τ := τ) (main (F := Ideal))) ⟨m, fun _ => 0, ρ⟩ (fun r => ∀ c : Dev nD,
      r.2.mem ((c : Thread nD τ).loc main_v0) = attnArr (argQ m c) (argK m c)
      ∧ r.2.mem ((c : Thread nD τ).loc main_arg0) = m ((c : Thread nD τ).loc main_arg0)
      ∧ r.2.mem ((c : Thread nD τ).loc main_arg1) = m ((c : Thread nD τ).loc main_arg1)) :=
  (θ_run defs _ _).mono (fun r h c => ⟨((h.1 c).1 (2 : Fin 3)).trans (final_o m c (hR c).1 (hR c).2),
    ((h.1 c).1 (0 : Fin 3)).trans ((dats m 0 c).arrAt_in (0 : Fin 3) rfl _),
    ((h.1 c).1 (1 : Fin 3)).trans ((dats m 0 c).arrAt_in (1 : Fin 3) rfl _)⟩) (run_main m ρ)

end Cert.KernelIdeal.Mla
-- ==== Proof.RefValue.lean ====
/-
  The reference's result, on the extended reals and for real arguments: the one-pass softmax of the masked scores, its
  weighted values, and these laid out with a row's heads side by side.
-/
module

public import proofs.«01_k».proof.Proof.Gen.ReferenceIdeal
public import proofs.«01_k».proof.Proof.Gen.ReferenceIdeal.Run
public import proofs.«01_k».proof.Proof.Result
public import Idealize.ShloMosaic.Lib.ValueIdx
public import Idealize.ShloMosaic.Lib.IdealHost
public import Idealize.ShloMosaic.Lib.Pipeline.Value
public import Idealize.ShloMosaic.Lib.StableHlo.Predicate

@[expose] public section

set_option maxRecDepth 16384
set_option Elab.async false

noncomputable section

namespace Cert.ReferenceIdeal.Mla

open Cert.ReferenceIdeal Cert.ReferenceIdeal.Gen
open Idealize.ShloMosaic Idealize.ShloMosaic.ValueIdx Idealize.ShloMosaic.TcCoe
open Idealize.SL.Sem
open Cert.KernelIdeal.Mla (score causal value Real' wsum vsum attn attnArr negInf causal_ne_top causal_zero coe_of softmax_once wgt)
open scoped BigOperators

/-- The two products, at an index. -/
theorem scores_apply (Q : FVec Ideal S2x8x8192x256 .bf16) (K : FVec Ideal S2x8192x256 .bf16) (b : Fin 2) (h : Fin 8) (i j : Fin 8192) :
    Host.dotGeneral dot_S2x8x8192x256_S2x8192x256_S2x8x8192x8192_3_2_12_1_0_0 none Q K (ix4 b h i j) = score Q K b h i j := by
  simp only [Host.dotGeneral]
  rw [Ideal.dotGeneral_apply,
    ← Equiv.sum_comp (contrEquiv1 dot_S2x8x8192x256_S2x8192x256_S2x8x8192x8192_3_2_12_1_0_0 256 rfl rfl).symm]
  refine Finset.sum_congr rfl fun e _ => ?_
  have hk := contrEquiv1_symm_val dot_S2x8x8192x256_S2x8192x256_S2x8x8192x8192_3_2_12_1_0_0 256 rfl rfl e
  refine congrArg₂ (fun a b : EReal => a * b) (congrArg Q ?_) (congrArg K ?_)
  · funext a; apply Fin.ext
    match a with
    | ⟨0, _⟩ => rfl
    | ⟨1, _⟩ => rfl
    | ⟨2, _⟩ => rfl
    | ⟨3, _⟩ => exact hk
  · funext a; apply Fin.ext
    match a with
    | ⟨0, _⟩ => rfl
    | ⟨1, _⟩ => rfl
    | ⟨2, _⟩ => exact hk

theorem weighted_apply (V : FVec Ideal S2x8192x128 .bf16) (P : FVec Ideal S2x8x8192x8192 .bf16) (b : Fin 2) (d : Fin 128) (h : Fin 8) (i : Fin 8192) :
    Host.dotGeneral dot_S2x8192x128_S2x8x8192x8192_S2x128x8x8192_1_3_2_12_0_0 none V P (ix4 b d h i) = ∑ j : Fin 8192, V (ix3 b j d) * P (ix4 b h i j) := by
  simp only [Host.dotGeneral]
  rw [Ideal.dotGeneral_apply,
    ← Equiv.sum_comp (contrEquiv1 dot_S2x8192x128_S2x8x8192x8192_S2x128x8x8192_1_3_2_12_0_0 8192 rfl rfl).symm]
  refine Finset.sum_congr rfl fun e _ => ?_
  have hk := contrEquiv1_symm_val dot_S2x8192x128_S2x8x8192x8192_S2x128x8x8192_1_3_2_12_0_0 8192 rfl rfl e
  refine congrArg₂ (fun a b : EReal => a * b) (congrArg V ?_) (congrArg P ?_)
  · funext a; apply Fin.ext
    match a with
    | ⟨0, _⟩ => rfl
    | ⟨1, _⟩ => exact hk
    | ⟨2, _⟩ => rfl
  · funext a; apply Fin.ext
    match a with
    | ⟨0, _⟩ => rfl
    | ⟨1, _⟩ => rfl
    | ⟨2, _⟩ => rfl
    | ⟨3, _⟩ => exact hk

/-- The mask: column at most row. -/
def mask : IVec S8192x8192 1 :=
  cmpi .sle (broadcastInDim S8192x8192 ![0, 1] bcast_S1x8192_S8192x8192_0_1 (broadcastInDim S1x8192 ![1] bcast_S8192_S1x8192_1 (iotaInDim S8192 32 0)))
    (broadcastInDim S8192x8192 ![0, 1] bcast_S8192x1_S8192x8192_0_1 (broadcastInDim S8192x1 ![0] bcast_S8192_S8192x1_0 (iotaInDim S8192 32 0)))

theorem mask_apply (i j : Fin 8192) : mask (ix2 i j) = 1#1 ↔ j.val ≤ i.val := by
  have hc : broadcastInDim S8192x8192 ![0, 1] bcast_S1x8192_S8192x8192_0_1 (broadcastInDim S1x8192 ![1] bcast_S8192_S1x8192_1 (iotaInDim S8192 32 0)) (ix2 i j)
      = BitVec.ofNat 32 j.val := by
    refine (broadcastInDim_apply _ _ _ _ (ix2 (0 : Fin 1) j) fun a => ?_).trans ((broadcastInDim_apply _ _ _ _ (ix1 j) fun a => ?_).trans rfl)
    · match a with
      | ⟨0, _⟩ => rfl
      | ⟨1, _⟩ => rfl
    · match a with
      | ⟨0, _⟩ => rfl
  have hr : broadcastInDim S8192x8192 ![0, 1] bcast_S8192x1_S8192x8192_0_1 (broadcastInDim S8192x1 ![0] bcast_S8192_S8192x1_0 (iotaInDim S8192 32 0)) (ix2 i j)
      = BitVec.ofNat 32 i.val := by
    refine (broadcastInDim_apply _ _ _ _ (ix2 i (0 : Fin 1)) fun a => ?_).trans ((broadcastInDim_apply _ _ _ _ (ix1 i) fun a => ?_).trans rfl)
    · match a with
      | ⟨0, _⟩ => rfl
      | ⟨1, _⟩ => rfl
    · match a with
      | ⟨0, _⟩ => rfl
  have e : mask (ix2 i j) = IntOp.cmpi .sle (BitVec.ofNat 32 j.val) (BitVec.ofNat 32 i.val) := by rw [← hc, ← hr]; rfl
  have ti : (BitVec.ofNat 32 i.val).toNat = i.val := by rw [BitVec.toNat_ofNat]; omega
  have tj : (BitVec.ofNat 32 j.val).toNat = j.val := by rw [BitVec.toNat_ofNat]; omega
  rw [e, StableHlo.Predicate.sle_iff_toNat (by rw [tj]; omega) (by rw [ti]; omega), ti, tj]

/-- The masked scores. -/
def masked (Q : FVec Ideal S2x8x8192x256 .bf16) (K : FVec Ideal S2x8192x256 .bf16) : FVec Ideal S2x8x8192x8192 .f32 :=
  select (broadcastInDim S2x8x8192x8192 ![2, 3] bcast_S8192x8192_S2x8x8192x8192_2_3 mask)
    (Host.dotGeneral dot_S2x8x8192x256_S2x8192x256_S2x8x8192x8192_3_2_12_1_0_0 none Q K)
    (broadcastInDim S2x8x8192x8192 ![] bcast_S_S2x8x8192x8192 (id (constant S_ .f32 0xFF800000#32)))

theorem masked_apply (Q : FVec Ideal S2x8x8192x256 .bf16) (K : FVec Ideal S2x8192x256 .bf16) (b : Fin 2) (h : Fin 8) (i j : Fin 8192) :
    masked Q K (ix4 b h i j) = causal Q K b h i j.val := by
  have hm : broadcastInDim S2x8x8192x8192 ![2, 3] bcast_S8192x8192_S2x8x8192x8192_2_3 mask (ix4 b h i j) = mask (ix2 i j) :=
    broadcastInDim_apply _ _ _ _ _ fun a => match a with
      | ⟨0, _⟩ => rfl
      | ⟨1, _⟩ => rfl
  have hb : broadcastInDim S2x8x8192x8192 ![] bcast_S_S2x8x8192x8192 (id (constant (F := Ideal) S_ .f32 0xFF800000#32)) (ix4 b h i j) = ⊥ :=
    (broadcastInDim_scalar_apply _ _ _).trans negInf
  unfold masked
  rw [select_apply, hm, hb, scores_apply]
  unfold causal Scalar.select
  rw [dif_pos j.isLt]
  by_cases hji : j.val ≤ i.val
  · exact (if_pos ((mask_apply i j).2 hji)).trans (if_pos hji).symm
  · exact (if_neg fun x => hji ((mask_apply i j).1 x)).trans (if_neg hji).symm

/-- A row's number spread over the row's columns. -/
theorem spread_apply (x : FVec Ideal S2x8x8192 .f32) (b : Fin 2) (h : Fin 8) (i j : Fin 8192) :
    broadcastInDim S2x8x8192x8192 ![0, 1, 2, 3] bcast_S2x8x8192x1_S2x8x8192x8192_0_1_2_3
      (broadcastInDim S2x8x8192x1 ![0, 1, 2] bcast_S2x8x8192_S2x8x8192x1_0_1_2 x) (ix4 b h i j) = x (ix3 b h i) := by
  refine (broadcastInDim_apply _ _ _ _ (ix4 b h i (0 : Fin 1)) fun a => ?_).trans (broadcastInDim_apply _ _ _ _ (ix3 b h i) fun a => ?_)
  · match a with
    | ⟨0, _⟩ => rfl
    | ⟨1, _⟩ => rfl
    | ⟨2, _⟩ => rfl
    | ⟨3, _⟩ => rfl
  · match a with
    | ⟨0, _⟩ => rfl
    | ⟨1, _⟩ => rfl
    | ⟨2, _⟩ => rfl

theorem redu : S2x8x8192x8192.Reduces [3] S2x8x8192 := by decide

theorem lift_apply (b : Fin 2) (h : Fin 8) (i j : Fin 8192) : redu.lift (ix3 b h i) j = ix4 b h i j := by
  funext a; apply Fin.ext
  match a with
  | ⟨0, _⟩ => rfl
  | ⟨1, _⟩ => rfl
  | ⟨2, _⟩ => rfl
  | ⟨3, _⟩ => rfl

/-- A row's maximum, as the softmax takes it; and a row's sum. -/
def rowMax (X : FVec Ideal S2x8x8192x8192 .f32) : FVec Ideal S2x8x8192 .f32 :=
  maximumf (broadcastInDim S2x8x8192 ![] bcast_S_S2x8x8192 (constant S_ .f32 0xFF800000#32))
    (Host.reduce FloatOps.maximumf X (constant S_ .f32 0xFF800000#32) reducesTo_S2x8x8192x8192_S2x8x8192_d3 h_S_)

theorem rowMax_apply (X : FVec Ideal S2x8x8192x8192 .f32) (b : Fin 2) (h : Fin 8) (i : Fin 8192) :
    rowMax X (ix3 b h i) = max ⊥ (Finset.univ.fold max ⊥ fun j : Fin 8192 => X (ix4 b h i j)) := by
  unfold rowMax
  rw [maximumf_apply, Host.reduce_eq_fold_single FloatOps.maximumf X _ _ redu h_S_ (ix3 b h i)]
  refine congrArg₂ (fun a b : EReal => max a b) ((broadcastInDim_scalar_apply _ _ _).trans negInf) ?_
  show Finset.univ.fold max (Ideal.ofBits .f32 0xFF800000#32) _ = _
  rw [negInf]
  exact congrArg (fun f : Fin 8192 → EReal => Finset.univ.fold max ⊥ f) (funext fun j => congrArg X (lift_apply b h i j))

def rowSum (X : FVec Ideal S2x8x8192x8192 .f32) : FVec Ideal S2x8x8192 .f32 :=
  Host.reduceAdd X (constant S_ .f32 0x00000000#32) reducesTo_S2x8x8192x8192_S2x8x8192_d3 h_S_

theorem rowSum_apply (X : FVec Ideal S2x8x8192x8192 .f32) (b : Fin 2) (h : Fin 8) (i : Fin 8192) :
    rowSum X (ix3 b h i) = 0 + ∑ j : Fin 8192, X (ix4 b h i j) := by
  unfold rowSum
  rw [hostReduceAdd_apply, Ideal.hostReduceAdd_single _ redu]
  exact congrArg₂ (fun a b : EReal => a + b) Ideal.ofBits_zero_f32 (Finset.sum_congr rfl fun j _ => congrArg X (lift_apply b h i j))

/-- The exponentials, and the softmax. -/
def expd (X : FVec Ideal S2x8x8192x8192 .f32) : FVec Ideal S2x8x8192x8192 .f32 :=
  Host.exp (subf X (broadcastInDim S2x8x8192x8192 ![0, 1, 2, 3] bcast_S2x8x8192x1_S2x8x8192x8192_0_1_2_3
    (broadcastInDim S2x8x8192x1 ![0, 1, 2] bcast_S2x8x8192_S2x8x8192x1_0_1_2 (rowMax X))))

theorem expd_apply (X : FVec Ideal S2x8x8192x8192 .f32) (b : Fin 2) (h : Fin 8) (i j : Fin 8192) :
    expd X (ix4 b h i j) = Ideal.exp (X (ix4 b h i j) - rowMax X (ix3 b h i)) := by
  rw [← spread_apply (rowMax X) b h i j]; rfl

def soft (X : FVec Ideal S2x8x8192x8192 .f32) : FVec Ideal S2x8x8192x8192 .bf16 :=
  truncf .bf16 (Host.divf (expd X) (broadcastInDim S2x8x8192x8192 ![0, 1, 2, 3] bcast_S2x8x8192x1_S2x8x8192x8192_0_1_2_3
    (broadcastInDim S2x8x8192x1 ![0, 1, 2] bcast_S2x8x8192_S2x8x8192x1_0_1_2 (rowSum (expd X))))) bitsLt_bf16_f32

theorem soft_apply (X : FVec Ideal S2x8x8192x8192 .f32) (b : Fin 2) (h : Fin 8) (i j : Fin 8192) :
    soft X (ix4 b h i j) = Ideal.div (Ideal.exp (X (ix4 b h i j) - rowMax X (ix3 b h i))) (rowSum (expd X) (ix3 b h i)) := by
  unfold soft
  rw [truncf_apply, hostDivf_apply, expd_apply, spread_apply]

/-- The reference's result. -/
def refArr (Q : FVec Ideal S2x8x8192x256 .bf16) (K : FVec Ideal S2x8192x256 .bf16) : FVec Ideal S2x8192x1024 .f32 :=
  shapeCast S2x8192x1024 (transpose S2x8192x8x128 [0, 3, 2, 1]
    (Host.dotGeneral dot_S2x8192x128_S2x8x8192x8192_S2x128x8x8192_1_3_2_12_0_0 none
      (extractStridedSlice S2x8192x128 ![0, 0, 0] K slices_S2x8192x256_S2x8192x128_0_0_0) (soft (masked Q K)))
    transposes_S2x128x8x8192_S2x8192x8x128_0_3_2_1) shapeCasts_S2x8192x8x128_S2x8192x1024

theorem attn_apply (Q : FVec Ideal S2x8x8192x256 .bf16) (K : FVec Ideal S2x8192x256 .bf16) (hQ : Real' (fun i => (Q i : EReal))) (hK : Real' (fun i => (K i : EReal)))
    (b : Fin 2) (h : Fin 8) (i : Fin 8192) (d : Fin 128) :
    Host.dotGeneral dot_S2x8192x128_S2x8x8192x8192_S2x128x8x8192_1_3_2_12_0_0 none
      (extractStridedSlice S2x8192x128 ![0, 0, 0] K slices_S2x8192x256_S2x8192x128_0_0_0) (soft (masked Q K)) (ix4 b d h i) = attn Q K b h i d := by
  rw [weighted_apply]
  have hv : ∀ j : Fin 8192, (extractStridedSlice S2x8192x128 ![0, 0, 0] K slices_S2x8192x256_S2x8192x128_0_0_0 (ix3 b j d) : EReal) = (value K b d j.val : EReal) := fun j => by
    refine (extractStridedSlice_apply _ _ _ _ (ix3 b j (⟨d.val, by omega⟩ : Fin 256)) fun a => ?_).trans ?_
    · match a with
      | ⟨0, _⟩ => exact (Nat.zero_add _).symm
      | ⟨1, _⟩ => exact (Nat.zero_add _).symm
      | ⟨2, _⟩ => exact (Nat.zero_add _).symm
    · unfold value; rw [dif_pos j.isLt]; exact coe_of (hK _)
  have hX : ∀ j : Fin 8192, masked Q K (ix4 b h i j) = causal Q K b h i j.val := masked_apply Q K b h i
  have hmax : rowMax (masked Q K) (ix3 b h i) = max ⊥ (Finset.univ.fold max ⊥ fun j : Fin 8192 => causal Q K b h i j.val) := by
    rw [rowMax_apply]; simp only [hX]
  have hsum : rowSum (expd (masked Q K)) (ix3 b h i)
      = 0 + ∑ j : Fin 8192, Ideal.exp (causal Q K b h i j.val - rowMax (masked Q K) (ix3 b h i)) := by
    rw [rowSum_apply]; simp only [expd_apply, hX]
  have r := softmax_once (fun j : Fin 8192 => causal Q K b h i j.val) (fun j => causal_ne_top hQ hK b h i j.val) (0 : Fin 8192) (causal_zero hQ hK b h i)
    (fun j : Fin 8192 => (extractStridedSlice S2x8192x128 ![0, 0, 0] K slices_S2x8192x256_S2x8192x128_0_0_0 (ix3 b j d) : EReal))
    (fun j : Fin 8192 => value K b d j.val) hv _ hmax _ hsum
  refine (Finset.sum_congr rfl fun j _ => ?_).trans (r.trans ?_)
  · rw [soft_apply, hX]
  · unfold attn vsum wsum
    rw [Finset.sum_range, Finset.sum_range]

theorem refArr_eq (Q : FVec Ideal S2x8x8192x256 .bf16) (K : FVec Ideal S2x8192x256 .bf16) (hQ : Real' (fun i => (Q i : EReal))) (hK : Real' (fun i => (K i : EReal))) :
    refArr Q K = attnArr Q K := by
  funext y
  have h0 : (y 0).val < 2 := (y 0).isLt
  have h1 : (y 1).val < 8192 := (y 1).isLt
  have h2 : (y 2).val < 1024 := (y 2).isLt
  unfold refArr attnArr
  refine Eq.trans ?_ (attn_apply Q K hQ hK (⟨(y 0).val, h0⟩ : Fin 2) (⟨(y 2).val / 128, by omega⟩ : Fin 8) (⟨(y 1).val, h1⟩ : Fin 8192) (⟨(y 2).val % 128, by omega⟩ : Fin 128))
  refine (shapeCast_apply _ _ _ (ix4 (⟨(y 0).val, h0⟩ : Fin 2) (⟨(y 1).val, h1⟩ : Fin 8192) (⟨(y 2).val / 128, by omega⟩ : Fin 8) (⟨(y 2).val % 128, by omega⟩ : Fin 128)) ?_).trans
    (transpose_apply _ _ _ _ _ fun a => ?_)
  · rw [Shape.rowMajor_val_four, Shape.rowMajor_val_three]
    show (((y 0).val * 8192 + (y 1).val) * 8 + (y 2).val / 128) * 128 + (y 2).val % 128 = ((y 0).val * 8192 + (y 1).val) * 1024 + (y 2).val
    omega
  · match a with
    | ⟨0, _⟩ => rfl
    | ⟨1, _⟩ => rfl
    | ⟨2, _⟩ => rfl
    | ⟨3, _⟩ => rfl

/-- The reference's run, read. -/
theorem run_value (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v23) = refArr (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Cert.ReferenceIdeal.Value.run (F := Ideal) m ρ

end Cert.ReferenceIdeal.Mla
-- ==== Proof.Finite.lean ====
/-
  What the precondition says: no element of either argument is infinite.
-/
module

public import proofs.«01_k».proof.Proof.Gen.Pre_finite
public import proofs.«01_k».proof.Proof.Invariant
public import Idealize.ShloMosaic.Lib.ReduceAll
public import Idealize.ShloMosaic.Lib.ValueIdx
public import Idealize.ShloMosaic.Lib.StableHlo.Predicate

@[expose] public section

set_option Elab.async false

noncomputable section

namespace Cert.Pre_finite.Mla

open Cert.Pre_finite Cert.Pre_finite.Gen
open Idealize.ShloMosaic Idealize.ShloMosaic.ValueIdx
open Cert.KernelIdeal.Mla (Real')

theorem posInf : (Ideal.ofBits .bf16 0x7F80#16 : EReal) = ⊤ := by
  simp [Ideal.ofBits, Ideal.ieee]

/-- An element below plus infinity in absolute value is a real number. -/
theorem real_of_lt (x : EReal) (h : Ideal.cmp .olt (max x (-x)) ⊤ = 1#1) : x ≠ ⊤ ∧ x ≠ ⊥ := by
  constructor
  · rintro rfl
    simp [Ideal.cmp] at h
  · rintro rfl
    simp [Ideal.cmp] at h

theorem decode (a0 : FVec Ideal S2x8x8192x256 .bf16) (a1 : FVec Ideal S2x8192x256 .bf16)
    (h : Cert.Pre_finite.fn (F := Ideal) a0 a1 = fun _ => 1#1) : Real' (fun i => (a0 i : EReal)) ∧ Real' (fun i => (a1 i : EReal)) := by
  have z : S_.Idx := fun a => a.elim0
  have e := congrFun h z
  have e' := IntOp.andi_eq_one.1 e
  haveI : Subsingleton S_.Idx := ⟨fun x y => funext fun a => a.elim0⟩
  have t : ∀ x : EReal, Ideal.cmp .olt (max x (-x)) (Ideal.ofBits .bf16 0x7F80#16) = 1#1 → x ≠ ⊤ ∧ x ≠ ⊥ := by
    rw [posInf]; exact real_of_lt
  exact ⟨fun i => t _ (Host.reduce_andi_all _ _ _ _ _ e'.1 i), fun i => t _ (Host.reduce_andi_all _ _ _ _ _ e'.2 i)⟩

end Cert.Pre_finite.Mla
-- ==== Proof.FfnSpec.lean ====
/-
  The feed-forward block in mathematics, on the extended reals: a row's normalisation, the row after the memory
  projection, the widened row, the three-tap convolution over the rows before it, the gated product, and the block's result.
-/
module

public import Idealize.ShloMosaic.PureOps.Ideal
public import Mathlib.Algebra.BigOperators.Fin

@[expose] public section

noncomputable section

namespace Ffn

open Idealize.ShloMosaic
open scoped BigOperators

/-- The residual's factor, the row length and the normalisation's small term, as the programs hold them. -/
def alpha : EReal := Ideal.ofBits .f32 0x3FB504F3#32
def width : EReal := Ideal.ofBits .f32 0x44800000#32
def small : EReal := Ideal.ofBits .f32 0x3727C5AC#32

/-- A row's mean, and the row less its mean. -/
def mean (z : Fin 1024 → EReal) : EReal := Ideal.div (∑ d : Fin 1024, z d) width
def centre (z : Fin 1024 → EReal) (d : Fin 1024) : EReal := z d - mean z

/-- A centred row over its deviation, scaled and shifted. -/
def scaled (z g b : Fin 1024 → EReal) (d : Fin 1024) : EReal :=
  z d * Ideal.rsqrt (mean (fun k => z k * z k) + small) * g d + b d

/-- A row's normalisation. -/
def norm (z g b : Fin 1024 → EReal) : Fin 1024 → EReal := scaled (centre z) g b

/-- A row after the memory projection is added to it and normalised. -/
def mixed (x mo : Fin 1024 → EReal) (W : Fin 1024 → Fin 1024 → EReal) (g b : Fin 1024 → EReal) : Fin 1024 → EReal :=
  norm (fun d => alpha * x d + ∑ e : Fin 1024, mo e * W e d) g b

/-- A row times the widening matrix. -/
def widened (x : Fin 1024 → EReal) (W : Fin 1024 → Fin 5632 → EReal) (f : Fin 5632) : EReal := ∑ d : Fin 1024, x d * W d f

/-- Three taps of the convolution, the newest row last. -/
def taps (w : Fin 3 → EReal) (b u2 u1 u0 : EReal) : EReal := b + (w 0 * u2 + w 1 * u1 + w 2 * u0)

/-- A gate column against its value column. -/
def gated (g v : EReal) : EReal := g * Ideal.logistic g * v

/-- A gate column's and a value column's place in the wide row. -/
def valCol (f : Fin 2816) : Fin 5632 := ⟨f.val, by omega⟩
def gateCol (f : Fin 2816) : Fin 5632 := ⟨2816 + f.val, by omega⟩

/-- The block's result on a row: the gated columns projected back, added to the residual and normalised. -/
def result (x : Fin 1024 → EReal) (cv : Fin 5632 → EReal) (W : Fin 2816 → Fin 1024 → EReal) (g b : Fin 1024 → EReal) : Fin 1024 → EReal :=
  norm (fun d => alpha * x d + ∑ f : Fin 2816, gated (cv (gateCol f)) (cv (valCol f)) * W f d) g b

/-- The row `k` before row `t` of a sequence that starts with nothing before it. -/
def before {T : Nat} (u : Fin T → EReal) (k : Nat) (t : Fin T) : EReal := if h : k ≤ t.val then u ⟨t.val - k, by omega⟩ else 0

/-- The row `k` before row `r` of a block of 512 that follows eight rows held back. -/
def rowBack (c : Fin 8 → EReal) (u : Fin 512 → EReal) (k : Nat) (r : Fin 512) : EReal :=
  if h : k ≤ r.val then u ⟨r.val - k, by omega⟩ else if h' : 8 + r.val - k < 8 then c ⟨8 + r.val - k, h'⟩ else 0

/-- A sum over the 2816 columns is the sum over each half. -/
theorem sum_halves (h : Fin 2816 → EReal) :
    ∑ f : Fin 2816, h f = (∑ f : Fin 1408, h ⟨f.val, by omega⟩) + ∑ f : Fin 1408, h ⟨1408 + f.val, by omega⟩ :=
  Fin.sum_univ_add (a := 1408) (b := 1408) h

end Ffn

end
-- ==== Proof.FfnPay.lean ====
/-
  The feed-forward kernel's vectors read at an index, on the extended reals: the normalisation of a block's rows, the
  convolution of a slice of its columns, and the products.
-/
module

public import proofs.«01_k».proof.Proof.Gen.Kernel2Ideal.Skeleton
public import proofs.«01_k».proof.Proof.FfnSpec
public import Idealize.ShloMosaic.Lib.ValueIdx
public import Idealize.ShloMosaic.Lib.MatmulPlain
public import Idealize.ShloMosaic.Lib.KernelVsHost

@[expose] public section

set_option maxRecDepth 16384
set_option Elab.async false

noncomputable section

namespace Cert.Kernel2Ideal.Ffn

open Cert.Kernel2Ideal Cert.Kernel2Ideal.Gen _root_.Ffn
open Idealize.ShloMosaic Idealize.ShloMosaic.ValueIdx
open scoped BigOperators

/-! ## The normalisation -/

/-- The means of a block's rows, as a column. -/
def meanV (X : FVec Ideal S512x1024 .f32) : FVec Ideal S512x1 .f32 :=
  divf (shapeCast S512x1 (multiReduction .add [1] S512 X 0x00000000#32 reduces_S512x1024_S512 (.inl rfl) rfl) shapeCasts_S512_S512x1)
    (broadcast S512x1 (Scalar.ofBits .f32 0x44800000#32 : Ideal .f32))

theorem meanV_apply (X : FVec Ideal S512x1024 .f32) (R : Fin 512) : meanV X (ix2 R (0 : Fin 1)) = mean (fun d => X (ix2 R d)) := by
  refine congrArg (fun s : EReal => Ideal.div s width) ?_
  refine (shapeCast_apply _ _ _ (ix1 R) (by rw [Shape.rowMajor_val_one, Shape.rowMajor_val_two]; show R.val = R.val * 1 + 0; omega)).trans ?_
  refine (Ideal.multiReduction_add_single X _ reduces_S512x1024_S512 (.inl rfl) rfl (ix1 R)).trans ?_
  refine Finset.sum_congr rfl fun j _ => congrArg X ?_
  funext a; apply Fin.ext
  match a with
  | ⟨0, _⟩ => rfl
  | ⟨1, _⟩ => rfl

/-- A column spread over the block, and a row spread over it. -/
theorem spread_col (x : FVec Ideal S512x1 .f32) (R : Fin 512) (d : Fin 1024) :
    broadcastTo S512x1024 x broadcasts_S512x1_S512x1024 (ix2 R d) = x (ix2 R (0 : Fin 1)) :=
  broadcastTo_apply _ _ _ _ fun a => match a with
    | ⟨0, _⟩ => rfl
    | ⟨1, _⟩ => rfl
theorem spread_row (x : Vec Ideal S1x1024 .f32) (R : Fin 512) (d : Fin 1024) :
    broadcastTo S512x1024 x broadcasts_S1x1024_S512x1024 (ix2 R d) = x (ix2 (0 : Fin 1) d) :=
  broadcastTo_apply _ _ _ _ fun a => match a with
    | ⟨0, _⟩ => rfl
    | ⟨1, _⟩ => rfl

/-- A block's rows less their means. -/
def centreV (X : FVec Ideal S512x1024 .f32) : FVec Ideal S512x1024 .f32 :=
  subf X (broadcastTo S512x1024 (meanV X) broadcasts_S512x1_S512x1024)

theorem centreV_apply (X : FVec Ideal S512x1024 .f32) (R : Fin 512) (d : Fin 1024) :
    centreV X (ix2 R d) = centre (fun d => X (ix2 R d)) d :=
  congrArg (fun s : EReal => X (ix2 R d) - s) ((spread_col _ R d).trans (meanV_apply X R))

/-- A block's centred rows over their deviations, scaled and shifted. -/
def scaledV (X : FVec Ideal S512x1024 .f32) (g b : Vec Ideal S1x1024 .f32) : FVec Ideal S512x1024 .f32 :=
  addf (mulf (mulf X (broadcastTo S512x1024 (rsqrt (addf (meanV (mulf X X)) (broadcast S512x1 (Scalar.ofBits .f32 0x3727C5AC#32 : Ideal .f32))))
    broadcasts_S512x1_S512x1024)) (broadcastTo S512x1024 g broadcasts_S1x1024_S512x1024)) (broadcastTo S512x1024 b broadcasts_S1x1024_S512x1024)

theorem scaledV_apply (X : FVec Ideal S512x1024 .f32) (g b : Vec Ideal S1x1024 .f32) (R : Fin 512) (d : Fin 1024) :
    scaledV X g b (ix2 R d) = scaled (fun d => X (ix2 R d)) (fun d => g (ix2 (0 : Fin 1) d)) (fun d => b (ix2 (0 : Fin 1) d)) d := by
  refine congrArg₂ (fun s t : EReal => s + t) (congrArg₂ (fun s t : EReal => s * t) (congrArg (fun s : EReal => X (ix2 R d) * s) ?_) (spread_row g R d)) (spread_row b R d)
  refine (spread_col _ R d).trans ?_
  exact congrArg (fun s : EReal => Ideal.rsqrt (s + small)) (meanV_apply (mulf X X) R)

/-! ## The first product and the rows after it -/

/-- A block without its unit axis. -/
theorem rows_apply (x : Vec Ideal S1x512x1024 .f32) (R : Fin 512) (d : Fin 1024) :
    shapeCast S512x1024 x shapeCasts_S1x512x1024_S512x1024 (ix2 R d) = x (ix3 (0 : Fin 1) R d) := by
  refine shapeCast_apply _ _ _ _ ?_
  rw [Shape.rowMajor_val_two, Shape.rowMajor_val_three]
  show (0 * 512 + R.val) * 1024 + d.val = R.val * 1024 + d.val
  omega

/-- The block's rows before their first normalisation. -/
def firstV (x0 x1 : Vec Ideal S1x512x1024 .f32) (x2 : Vec Ideal S1024x1024 .bf16) : FVec Ideal S512x1024 .f32 :=
  addf (mulf (broadcast S512x1024 (Scalar.ofBits .f32 0x3FB504F3#32 : Ideal .f32)) (shapeCast S512x1024 x0 shapeCasts_S1x512x1024_S512x1024))
    (matmul (φ₂ := .bf16) dot_S512x1024_S1024x1024_S512x1024_1_0_0_1_n_n none
      (truncf .bf16 (shapeCast S512x1024 x1 shapeCasts_S1x512x1024_S512x1024 : FVec Ideal S512x1024 .f32) bitsLt_bf16_f32) x2 (constant S512x1024 .f32 0x00000000#32))

theorem firstV_apply (x0 x1 : Vec Ideal S1x512x1024 .f32) (x2 : Vec Ideal S1024x1024 .bf16) (R : Fin 512) (d : Fin 1024) :
    firstV x0 x1 x2 (ix2 R d) = alpha * x0 (ix3 (0 : Fin 1) R d) + ∑ e : Fin 1024, x1 (ix3 (0 : Fin 1) R e) * x2 (ix2 e d) := by
  refine congrArg₂ (fun s t : EReal => s + t) (congrArg (fun s : EReal => alpha * s) (rows_apply x0 R d)) ?_
  refine (Ideal.matmul_plain_apply (M := 512) (K := 1024) (N := 1024) none _ _ _ R d).trans ?_
  rw [constant_apply, Ideal.ofBits_zero_f32, zero_add]
  exact Finset.sum_congr rfl fun e _ => congrArg (fun s : EReal => s * x2 (ix2 e d)) (rows_apply x1 R e)

/-- The block's rows after their first normalisation, row by row. -/
def blkMixed (x0 x1 : Vec Ideal S1x512x1024 .f32) (x2 : Vec Ideal S1024x1024 .bf16) (x3 x4 : Vec Ideal S1x1024 .f32) (R : Fin 512) : Fin 1024 → EReal :=
  mixed (fun d => x0 (ix3 (0 : Fin 1) R d)) (fun d => x1 (ix3 (0 : Fin 1) R d)) (fun e d => x2 (ix2 e d)) (fun d => x3 (ix2 (0 : Fin 1) d)) (fun d => x4 (ix2 (0 : Fin 1) d))

theorem mixed_apply (x0 x1 : Vec Ideal S1x512x1024 .f32) (x2 : Vec Ideal S1024x1024 .bf16) (x3 x4 : Vec Ideal S1x1024 .f32) (R : Fin 512) (d : Fin 1024) :
    k0_pay3 x0 x1 x2 x3 x4 (ix2 R d) = blkMixed x0 x1 x2 x3 x4 R d := by
  refine (show k0_pay3 x0 x1 x2 x3 x4 (ix2 R d) = scaledV (centreV (firstV x0 x1 x2)) x3 x4 (ix2 R d) from rfl).trans ?_
  refine (scaledV_apply _ x3 x4 R d).trans ?_
  have e : (fun d => centreV (firstV x0 x1 x2) (ix2 R d))
      = centre (fun d => alpha * x0 (ix3 (0 : Fin 1) R d) + ∑ e : Fin 1024, x1 (ix3 (0 : Fin 1) R e) * x2 (ix2 e d)) := by
    funext d
    refine (centreV_apply _ R d).trans ?_
    exact congrArg (fun z : Fin 1024 → EReal => centre z d) (funext fun d => firstV_apply x0 x1 x2 R d)
  exact congrArg (fun z : Fin 1024 → EReal => scaled z (fun d => x3 (ix2 (0 : Fin 1) d)) (fun d => x4 (ix2 (0 : Fin 1) d)) d) e

/-- A product of the block's rows with a slice of the widening matrix. -/
theorem slice_apply (p : FVec Ideal S512x1024 .bf16) (w : Vec Ideal S1024x1408 .bf16) (R : Fin 512) (f : Fin 1408) :
    k0_pay6 p w (ix2 R f) = ∑ d : Fin 1024, p (ix2 R d) * w (ix2 d f) := by
  refine (Ideal.matmul_plain_apply (M := 512) (K := 1024) (N := 1408) none p _ _ R f).trans ?_
  rw [constant_apply, Ideal.ofBits_zero_f32, zero_add]

/-! ## The convolution of a slice -/

/-- The eight rows held back, then the block's rows. -/
def joined (u : FVec Ideal S512x1408 .f32) (c : Vec Ideal S8x1408 .f32) : FVec Ideal S520x1408 .f32 :=
  concatenate S520x1408 0 [⟨S8x1408, c⟩, ⟨S512x1408, u⟩] concatenates_S8x1408_S512x1408_S520x1408_d0

theorem joined_head (u : FVec Ideal S512x1408 .f32) (c : Vec Ideal S8x1408 .f32) (n : Fin 520) (f : Fin 1408) (h : n.val < 8) :
    joined u c (ix2 n f) = c (ix2 (⟨n.val, h⟩ : Fin 8) f) :=
  concatenate_pair_apply_left (t := S520x1408) 0 c u _ (ix2 n f) rfl (ix2 (⟨n.val, h⟩ : Fin 8) f) fun b => match b with
    | ⟨0, _⟩ => rfl
    | ⟨1, _⟩ => rfl

theorem joined_tail (u : FVec Ideal S512x1408 .f32) (c : Vec Ideal S8x1408 .f32) (n : Fin 520) (f : Fin 1408) (h : 8 ≤ n.val) :
    joined u c (ix2 n f) = u (ix2 (⟨n.val - 8, by omega⟩ : Fin 512) f) :=
  concatenate_pair_apply_right (t := S520x1408) 0 c u _ (ix2 n f) rfl rfl (ix2 (⟨n.val - 8, by omega⟩ : Fin 512) f)
    (fun b hb => match b, hb with
      | ⟨0, _⟩, hb => absurd rfl hb
      | ⟨1, _⟩, _ => rfl)
    (show n.val - 8 + 8 = n.val by omega)

/-- The rows `k` before the block's rows. -/
theorem shifted_apply (u : FVec Ideal S512x1408 .f32) (c : Vec Ideal S8x1408 .f32) (k : BitVec 32) (hk : 0 < k.toNat) (hk' : k.toNat ≤ 8) (R : Fin 512) (f : Fin 1408) :
    extractStridedSlice S512x1408 ![8, 0] (dynamicRotate 0 k none (joined u c) rotates_S520x1408_d0) slices_S520x1408_o8_0_S512x1408 (ix2 R f)
      = rowBack (fun i => c (ix2 i f)) (fun r => u (ix2 r f)) k.toNat R := by
  refine (extractStridedSlice_apply _ _ _ _ (ix2 (⟨8 + R.val, by omega⟩ : Fin 520) f) fun a => ?_).trans ?_
  · match a with
    | ⟨0, _⟩ => rfl
    | ⟨1, _⟩ => exact (Nat.zero_add _).symm
  refine (dynamicRotate_apply 0 k _ rotates_S520x1408_d0 _ (ix2 (⟨8 + R.val - k.toNat, by omega⟩ : Fin 520) f) fun b => ?_).trans ?_
  · match b with
    | ⟨0, _⟩ =>
      show 8 + R.val - k.toNat = (8 + R.val + 520 - k.toNat % 520) % 520
      omega
    | ⟨1, _⟩ => rfl
  unfold rowBack
  by_cases h : k.toNat ≤ R.val
  · rw [dif_pos h]
    refine (joined_tail u c _ f (show 8 ≤ 8 + R.val - k.toNat by omega)).trans ?_
    exact congrArg (fun r : Fin 512 => u (ix2 r f)) (Fin.ext (show 8 + R.val - k.toNat - 8 = R.val - k.toNat by omega))
  · rw [dif_neg h, dif_pos (show 8 + R.val - k.toNat < 8 by omega)]
    exact joined_head u c _ f (show 8 + R.val - k.toNat < 8 by omega)

/-- A row of a slice spread over the block; a tap's row of weights likewise. -/
theorem spread_slice (x : Vec Ideal S1x1408 .f32) (R : Fin 512) (f : Fin 1408) :
    broadcastTo S512x1408 x broadcasts_S1x1408_S512x1408 (ix2 R f) = x (ix2 (0 : Fin 1) f) :=
  broadcastTo_apply _ _ _ _ fun a => match a with
    | ⟨0, _⟩ => rfl
    | ⟨1, _⟩ => rfl
theorem tap_apply (w : Vec Ideal S3x1408 .f32) (k : Fin 3) (hs : S3x1408.Slices ![k.val, 0] S1x1408) (R : Fin 512) (f : Fin 1408) :
    broadcastTo S512x1408 (extractStridedSlice S1x1408 ![k.val, 0] w hs) broadcasts_S1x1408_S512x1408 (ix2 R f) = w (ix2 k f) :=
  (spread_slice _ R f).trans (extractStridedSlice_apply _ _ _ _ (ix2 k f) fun a => match a with
    | ⟨0, _⟩ => rfl
    | ⟨1, _⟩ => (Nat.zero_add _).symm)

/-- The convolution of a slice. -/
def convV (u : FVec Ideal S512x1408 .f32) (c : Vec Ideal S8x1408 .f32) (w : Vec Ideal S3x1408 .f32) (b : Vec Ideal S1x1408 .f32) : FVec Ideal S512x1408 .f32 :=
  addf (broadcastTo S512x1408 b broadcasts_S1x1408_S512x1408)
    (addf (addf (mulf (broadcastTo S512x1408 (extractStridedSlice S1x1408 ![0, 0] w slices_S3x1408_o0_0_S1x1408) broadcasts_S1x1408_S512x1408)
          (extractStridedSlice S512x1408 ![8, 0] (dynamicRotate 0 2#32 none (joined u c) rotates_S520x1408_d0) slices_S520x1408_o8_0_S512x1408))
        (mulf (broadcastTo S512x1408 (extractStridedSlice S1x1408 ![1, 0] w slices_S3x1408_o1_0_S1x1408) broadcasts_S1x1408_S512x1408)
          (extractStridedSlice S512x1408 ![8, 0] (dynamicRotate 0 1#32 none (joined u c) rotates_S520x1408_d0) slices_S520x1408_o8_0_S512x1408)))
      (mulf (broadcastTo S512x1408 (extractStridedSlice S1x1408 ![2, 0] w slices_S3x1408_o2_0_S1x1408) broadcasts_S1x1408_S512x1408) u))

theorem convV_apply (u : FVec Ideal S512x1408 .f32) (c : Vec Ideal S8x1408 .f32) (w : Vec Ideal S3x1408 .f32) (b : Vec Ideal S1x1408 .f32) (R : Fin 512) (f : Fin 1408) :
    convV u c w b (ix2 R f) = taps (fun k => w (ix2 k f)) (b (ix2 (0 : Fin 1) f)) (rowBack (fun i => c (ix2 i f)) (fun r => u (ix2 r f)) 2 R)
      (rowBack (fun i => c (ix2 i f)) (fun r => u (ix2 r f)) 1 R) (u (ix2 R f)) := by
  refine congrArg₂ (fun s t : EReal => s + t) (spread_slice b R f) (congrArg₂ (fun s t : EReal => s + t) (congrArg₂ (fun s t : EReal => s + t) ?_ ?_) ?_)
  · exact congrArg₂ (fun s t : EReal => s * t) (tap_apply w 0 _ R f) (shifted_apply u c 2#32 (by decide) (by decide) R f)
  · exact congrArg₂ (fun s t : EReal => s * t) (tap_apply w 1 _ R f) (shifted_apply u c 1#32 (by decide) (by decide) R f)
  · exact congrArg (fun s : EReal => s * u (ix2 R f)) (tap_apply w 2 _ R f)

/-- The gated slice projected back. -/
def backV (g v : FVec Ideal S512x1408 .f32) (w : Vec Ideal S1408x1024 .bf16) : FVec Ideal S512x1024 .f32 :=
  matmul (φ₂ := .bf16) dot_S512x1408_S1408x1024_S512x1024_1_0_0_1_n_n none
    (truncf .bf16 (mulf (mulf g (logistic g)) v) bitsLt_bf16_f32) w (constant S512x1024 .f32 0x00000000#32)

theorem backV_apply (g v : FVec Ideal S512x1408 .f32) (w : Vec Ideal S1408x1024 .bf16) (R : Fin 512) (d : Fin 1024) :
    backV g v w (ix2 R d) = ∑ f : Fin 1408, gated (g (ix2 R f)) (v (ix2 R f)) * w (ix2 f d) := by
  refine (Ideal.matmul_plain_apply (M := 512) (K := 1408) (N := 1024) none _ _ _ R d).trans ?_
  rw [constant_apply, Ideal.ofBits_zero_f32, zero_add]
  rfl

end Cert.Kernel2Ideal.Ffn

end
-- ==== Proof.FfnBlock.lean ====
/-
  One block of the feed-forward kernel, on the extended reals: its result, its last eight widened rows, and how the eight
  rows held back from the block before it enter.
-/
module

public import proofs.«01_k».proof.Proof.FfnPay
public import Idealize.ShloMosaic.Lib.Pipeline.Value
public import Idealize.ShloMosaic.Lib.Pipeline.ValueKit
public import Idealize.ShloMosaic.Lib.Tactic

@[expose] public section

set_option maxRecDepth 16384
set_option Elab.async false

noncomputable section

namespace Cert.Kernel2Ideal.Ffn

open Cert.Kernel2Ideal Cert.Kernel2Ideal.Gen _root_.Ffn
open Idealize.ShloMosaic hiding ix1 ix2 ix3 ix4
open Idealize.ShloMosaic.ValueIdx
open Idealize.ShloMosaic.TcCoe Idealize.ShloMosaic.Tactic
open scoped BigOperators

section Block
variable (x0 x1 : Vec Ideal S1x512x1024 .f32) (x2 : Vec Ideal S1024x1024 .bf16) (x3 x4 : Vec Ideal S1x1024 .f32) (x5 : Vec Ideal S1024x5632 .bf16)
  (x6 : Vec Ideal S3x5632 .f32) (x7 : Vec Ideal S1x5632 .f32) (x8 : Vec Ideal S2816x1024 .bf16) (x9 x10 : Vec Ideal S1x1024 .f32)

/-- The block's widened rows. -/
def blkUp (R : Fin 512) : Fin 5632 → EReal := widened (blkMixed x0 x1 x2 x3 x4 R) (fun d f => x5 (ix2 d f))

/-- The block's rows after the convolution, over the eight rows held back. -/
def blkConv (held : Fin 8 → Fin 5632 → EReal) (R : Fin 512) (f : Fin 5632) : EReal :=
  taps (fun k => x6 (ix2 k f)) (x7 (ix2 (0 : Fin 1) f)) (rowBack (fun i => held i f) (fun r => blkUp x0 x1 x2 x3 x4 x5 r f) 2 R)
    (rowBack (fun i => held i f) (fun r => blkUp x0 x1 x2 x3 x4 x5 r f) 1 R) (blkUp x0 x1 x2 x3 x4 x5 R f)

/-- The block's result. -/
def blkResult (held : Fin 8 → Fin 5632 → EReal) (R : Fin 512) : Fin 1024 → EReal :=
  result (blkMixed x0 x1 x2 x3 x4 R) (blkConv x0 x1 x2 x3 x4 x5 x6 x7 held R) (fun f d => x8 (ix2 f d)) (fun d => x9 (ix2 (0 : Fin 1) d)) (fun d => x10 (ix2 (0 : Fin 1) d))

/-! ## A slice of the columns -/

/-- The widening matrix, the taps and the bias, over 1408 columns from `lo`. -/
def wSlice (lo : ℕ) (inb : ∀ a, ![0, lo] a + ![1024, 1408] a ≤ S1024x5632.size a) : Vec Ideal S1024x1408 .bf16 := View.ld x5 (Rect.unit (s := S1024x5632) ![0, lo] ![1024, 1408] inb)
def tSlice (lo : ℕ) (inb : ∀ a, ![0, lo] a + ![3, 1408] a ≤ S3x5632.size a) : Vec Ideal S3x1408 .f32 := View.ld x6 (Rect.unit (s := S3x5632) ![0, lo] ![3, 1408] inb)
def bSlice (lo : ℕ) (inb : ∀ a, ![0, lo] a + ![1, 1408] a ≤ S1x5632.size a) : Vec Ideal S1x1408 .f32 := View.ld x7 (Rect.unit (s := S1x5632) ![0, lo] ![1, 1408] inb)

/-- A slice of the block's widened rows. -/
def upV (lo : ℕ) (inb : ∀ a, ![0, lo] a + ![1024, 1408] a ≤ S1024x5632.size a) : FVec Ideal S512x1408 .f32 := k0_pay6 (k0_pay4 x0 x1 x2 x3 x4) (wSlice x5 lo inb)

section Columns
variable (lo : ℕ) (hlo : lo + 1408 ≤ 5632)
include hlo

theorem upV_apply (inb : ∀ a, ![0, lo] a + ![1024, 1408] a ≤ S1024x5632.size a) (R : Fin 512) (f : Fin 1408) :
    upV x0 x1 x2 x3 x4 x5 lo inb (ix2 R f) = blkUp x0 x1 x2 x3 x4 x5 R ⟨lo + f.val, by omega⟩ := by
  refine (slice_apply _ _ R f).trans ?_
  show _ = ∑ d : Fin 1024, blkMixed x0 x1 x2 x3 x4 R d * x5 (ix2 d (⟨lo + f.val, by omega⟩ : Fin 5632))
  refine Finset.sum_congr rfl fun d _ => ?_
  refine congrArg₂ (fun s t : EReal => s * t) (mixed_apply x0 x1 x2 x3 x4 R d) ?_
  refine View.ld_unit_apply_of x5 ![0, lo] ![1024, 1408] inb (ix2 d f) (ix2 d (⟨lo + f.val, by omega⟩ : Fin 5632)) fun a => ?_
  match a with
  | ⟨0, _⟩ => exact (Nat.zero_add _).symm
  | ⟨1, _⟩ => rfl

theorem conv_slice (inb : ∀ a, ![0, lo] a + ![1024, 1408] a ≤ S1024x5632.size a) (inb6 : ∀ a, ![0, lo] a + ![3, 1408] a ≤ S3x5632.size a)
    (inb7 : ∀ a, ![0, lo] a + ![1, 1408] a ≤ S1x5632.size a) (held : Fin 8 → Fin 5632 → EReal) (h : Vec Ideal S8x1408 .f32)
    (hh : ∀ i f, h (ix2 i f) = held i ⟨lo + f.val, by omega⟩) (R : Fin 512) (f : Fin 1408) :
    convV (upV x0 x1 x2 x3 x4 x5 lo inb) h (tSlice x6 lo inb6) (bSlice x7 lo inb7) (ix2 R f)
      = blkConv x0 x1 x2 x3 x4 x5 x6 x7 held R ⟨lo + f.val, by omega⟩ := by
  refine (convV_apply _ _ _ _ R f).trans ?_
  have e6 : (fun k => tSlice x6 lo inb6 (ix2 k f)) = fun k => x6 (ix2 k (⟨lo + f.val, by omega⟩ : Fin 5632)) := funext fun k =>
    View.ld_unit_apply_of x6 ![0, lo] ![3, 1408] inb6 (ix2 k f) (ix2 k (⟨lo + f.val, by omega⟩ : Fin 5632)) fun a => match a with
      | ⟨0, _⟩ => (Nat.zero_add _).symm
      | ⟨1, _⟩ => rfl
  have e7 : bSlice x7 lo inb7 (ix2 (0 : Fin 1) f) = x7 (ix2 (0 : Fin 1) (⟨lo + f.val, by omega⟩ : Fin 5632)) :=
    View.ld_unit_apply_of x7 ![0, lo] ![1, 1408] inb7 (ix2 (0 : Fin 1) f) (ix2 (0 : Fin 1) (⟨lo + f.val, by omega⟩ : Fin 5632)) fun a => match a with
      | ⟨0, _⟩ => rfl
      | ⟨1, _⟩ => rfl
  have eh : (fun i => h (ix2 i f)) = fun i => held i (⟨lo + f.val, by omega⟩ : Fin 5632) := funext fun i => hh i f
  have eu : (fun r => upV x0 x1 x2 x3 x4 x5 lo inb (ix2 r f)) = fun r => blkUp x0 x1 x2 x3 x4 x5 r ⟨lo + f.val, by omega⟩ :=
    funext fun r => upV_apply x0 x1 x2 x3 x4 x5 lo hlo inb r f
  rw [e6, e7, eh, eu, upV_apply x0 x1 x2 x3 x4 x5 lo hlo inb R f]
  rfl

end Columns

/-! ## The block's result -/

/-- The rows of the projection back that a half of the columns uses. -/
def dSlice (lo : ℕ) (inb : ∀ a, ![lo, 0] a + ![1408, 1024] a ≤ S2816x1024.size a) : Vec Ideal S1408x1024 .bf16 := View.ld x8 (Rect.unit (s := S2816x1024) ![lo, 0] ![1408, 1024] inb)

theorem dSlice_apply (lo : ℕ) (hlo : lo + 1408 ≤ 2816) (inb : ∀ a, ![lo, 0] a + ![1408, 1024] a ≤ S2816x1024.size a) (f : Fin 1408) (d : Fin 1024) :
    dSlice x8 lo inb (ix2 f d) = x8 (ix2 (⟨lo + f.val, by omega⟩ : Fin 2816) d) :=
  View.ld_unit_apply_of x8 ![lo, 0] ![1408, 1024] inb (ix2 f d) (ix2 (⟨lo + f.val, by omega⟩ : Fin 2816) d) fun a => match a with
    | ⟨0, _⟩ => rfl
    | ⟨1, _⟩ => (Nat.zero_add _).symm

/-- The rows before the last normalisation, of the convolved slices. -/
def lastV (v0 g0 v1 g1 : FVec Ideal S512x1408 .f32) (inb0 : ∀ a, ![0, 0] a + ![1408, 1024] a ≤ S2816x1024.size a)
    (inb1 : ∀ a, ![1408, 0] a + ![1408, 1024] a ≤ S2816x1024.size a) : FVec Ideal S512x1024 .f32 :=
  addf (mulf (broadcast S512x1024 (Scalar.ofBits .f32 0x3FB504F3#32 : Ideal .f32)) (k0_pay3 x0 x1 x2 x3 x4))
    (addf (addf k0_pay5 (backV g0 v0 (dSlice x8 0 inb0))) (backV g1 v1 (dSlice x8 1408 inb1)))

/-- The printed body over its slices. -/
def bodyV (v0 g0 v1 g1 : FVec Ideal S512x1408 .f32) (inb0 : ∀ a, ![0, 0] a + ![1408, 1024] a ≤ S2816x1024.size a)
    (inb1 : ∀ a, ![1408, 0] a + ![1408, 1024] a ≤ S2816x1024.size a) : FVec Ideal S1x512x1024 .f32 :=
  shapeCast S1x512x1024 (scaledV (centreV (lastV x0 x1 x2 x3 x4 x8 v0 g0 v1 g1 inb0 inb1)) x9 x10) shapeCasts_S512x1024_S1x512x1024

theorem lastV_apply (held : Fin 8 → Fin 5632 → EReal) (v0 g0 v1 g1 : FVec Ideal S512x1408 .f32) (inb0 : ∀ a, ![0, 0] a + ![1408, 1024] a ≤ S2816x1024.size a)
    (inb1 : ∀ a, ![1408, 0] a + ![1408, 1024] a ≤ S2816x1024.size a)
    (hv0 : ∀ R f, v0 (ix2 R f) = blkConv x0 x1 x2 x3 x4 x5 x6 x7 held R ⟨0 + f.val, by omega⟩)
    (hg0 : ∀ R f, g0 (ix2 R f) = blkConv x0 x1 x2 x3 x4 x5 x6 x7 held R ⟨2816 + f.val, by omega⟩)
    (hv1 : ∀ R f, v1 (ix2 R f) = blkConv x0 x1 x2 x3 x4 x5 x6 x7 held R ⟨1408 + f.val, by omega⟩)
    (hg1 : ∀ R f, g1 (ix2 R f) = blkConv x0 x1 x2 x3 x4 x5 x6 x7 held R ⟨4224 + f.val, by omega⟩) (R : Fin 512) (d : Fin 1024) :
    lastV x0 x1 x2 x3 x4 x8 v0 g0 v1 g1 inb0 inb1 (ix2 R d)
      = alpha * blkMixed x0 x1 x2 x3 x4 R d + ∑ f : Fin 2816, gated (blkConv x0 x1 x2 x3 x4 x5 x6 x7 held R (gateCol f)) (blkConv x0 x1 x2 x3 x4 x5 x6 x7 held R (valCol f)) * x8 (ix2 f d) := by
  refine congrArg₂ (fun s t : EReal => s + t) (congrArg (fun s : EReal => alpha * s) (mixed_apply x0 x1 x2 x3 x4 R d)) ?_
  refine Eq.trans ?_ (sum_halves _).symm
  refine congrArg₂ (fun s t : EReal => s + t) ?_ ?_
  · refine (show (addf k0_pay5 (backV g0 v0 (dSlice x8 0 inb0)) : FVec Ideal S512x1024 .f32) (ix2 R d)
        = Ideal.ofBits .f32 0x00000000#32 + backV g0 v0 (dSlice x8 0 inb0) (ix2 R d) from rfl).trans ?_
    rw [Ideal.ofBits_zero_f32, zero_add]
    refine (backV_apply _ _ _ R d).trans ?_
    refine Finset.sum_congr rfl fun f _ => ?_
    rw [hg0 R f, hv0 R f, dSlice_apply x8 0 (by omega) inb0 f d]
    have e : (⟨0 + f.val, by omega⟩ : Fin 2816) = ⟨f.val, by omega⟩ := Fin.ext (Nat.zero_add _)
    have e' : (⟨0 + f.val, by omega⟩ : Fin 5632) = valCol ⟨f.val, by omega⟩ := Fin.ext (Nat.zero_add _)
    rw [e, e']
    rfl
  · refine (backV_apply _ _ _ R d).trans ?_
    refine Finset.sum_congr rfl fun f _ => ?_
    rw [hg1 R f, hv1 R f, dSlice_apply x8 1408 (by omega) inb1 f d]
    have e : (⟨4224 + f.val, by omega⟩ : Fin 5632) = gateCol ⟨1408 + f.val, by omega⟩ := Fin.ext (show 4224 + f.val = 2816 + (1408 + f.val) by omega)
    rw [e]
    rfl

theorem bodyV_apply (held : Fin 8 → Fin 5632 → EReal) (v0 g0 v1 g1 : FVec Ideal S512x1408 .f32) (inb0 : ∀ a, ![0, 0] a + ![1408, 1024] a ≤ S2816x1024.size a)
    (inb1 : ∀ a, ![1408, 0] a + ![1408, 1024] a ≤ S2816x1024.size a)
    (hv0 : ∀ R f, v0 (ix2 R f) = blkConv x0 x1 x2 x3 x4 x5 x6 x7 held R ⟨0 + f.val, by omega⟩)
    (hg0 : ∀ R f, g0 (ix2 R f) = blkConv x0 x1 x2 x3 x4 x5 x6 x7 held R ⟨2816 + f.val, by omega⟩)
    (hv1 : ∀ R f, v1 (ix2 R f) = blkConv x0 x1 x2 x3 x4 x5 x6 x7 held R ⟨1408 + f.val, by omega⟩)
    (hg1 : ∀ R f, g1 (ix2 R f) = blkConv x0 x1 x2 x3 x4 x5 x6 x7 held R ⟨4224 + f.val, by omega⟩) (R : Fin 512) (d : Fin 1024) :
    bodyV x0 x1 x2 x3 x4 x8 x9 x10 v0 g0 v1 g1 inb0 inb1 (ix3 (0 : Fin 1) R d) = blkResult x0 x1 x2 x3 x4 x5 x6 x7 x8 x9 x10 held R d := by
  refine (shapeCast_apply _ _ _ (ix2 R d) ?_).trans ?_
  · rw [Shape.rowMajor_val_two, Shape.rowMajor_val_three]
    show R.val * 1024 + d.val = (0 * 512 + R.val) * 1024 + d.val
    omega
  refine (scaledV_apply _ x9 x10 R d).trans ?_
  refine congrArg (fun z : Fin 1024 → EReal => scaled z (fun d => x9 (ix2 (0 : Fin 1) d)) (fun d => x10 (ix2 (0 : Fin 1) d)) d) ?_
  funext d
  refine (centreV_apply _ R d).trans ?_
  exact congrArg (fun z : Fin 1024 → EReal => centre z d)
    (funext fun d => lastV_apply x0 x1 x2 x3 x4 x5 x6 x7 x8 held v0 g0 v1 g1 inb0 inb1 hv0 hg0 hv1 hg1 R d)

/-! ## The last eight rows -/

/-- The last eight rows of a slice, as they are held back and as they are written out. -/
theorem tail_apply (u : FVec Ideal S512x1408 .f32) (i : Fin 8) (f : Fin 1408) :
    k0_pay11 u (ix2 i f) = u (ix2 (⟨504 + i.val, by omega⟩ : Fin 512) f) := by
  refine (show k0_pay11 u (ix2 i f) = shapeCast S8x1408 (extractStridedSlice S8x1408 ![504, 0] u slices_S512x1408_o504_0_S8x1408) shapeCasts_S8x1408_S8x1408 (ix2 i f) from rfl).trans ?_
  refine (shapeCast_apply _ _ _ (ix2 i f) rfl).trans ?_
  exact extractStridedSlice_apply _ _ _ _ _ fun a => match a with
    | ⟨0, _⟩ => rfl
    | ⟨1, _⟩ => (Nat.zero_add _).symm

theorem tail_out_apply (u : FVec Ideal S512x1408 .f32) (i : Fin 8) (f : Fin 1408) :
    k0_pay12 u (ix4 (0 : Fin 1) (0 : Fin 1) i f) = u (ix2 (⟨504 + i.val, by omega⟩ : Fin 512) f) := by
  refine (show k0_pay12 u (ix4 (0 : Fin 1) (0 : Fin 1) i f)
    = shapeCast S1x1x8x1408 (extractStridedSlice S8x1408 ![504, 0] u slices_S512x1408_o504_0_S8x1408) shapeCasts_S8x1408_S1x1x8x1408 (ix4 (0 : Fin 1) (0 : Fin 1) i f) from rfl).trans ?_
  refine (shapeCast_apply _ _ _ (ix2 i f) ?_).trans ?_
  · rw [Shape.rowMajor_val_two, Shape.rowMajor_val_four]
    show i.val * 1408 + f.val = ((0 * 1 + 0) * 8 + i.val) * 1408 + f.val
    omega
  exact extractStridedSlice_apply _ _ _ _ _ fun a => match a with
    | ⟨0, _⟩ => rfl
    | ⟨1, _⟩ => (Nat.zero_add _).symm

section Tails
variable (lo : ℕ) (hlo : lo + 1408 ≤ 5632)
include hlo

/-- Where a slice's piece holds a column, it holds the widened row there. -/
theorem tail_tile (inb : ∀ a, ![0, lo] a + ![1024, 1408] a ≤ S1024x5632.size a) (i : Fin 8) (f : Fin 5632) :
    View.TileAt (Val := Elt Ideal) (S := S8x5632) (e := .f32) (ix2 i f) ![0, lo] ![8, 1408] (k0_pay11 (upV x0 x1 x2 x3 x4 x5 lo inb)) (blkUp x0 x1 x2 x3 x4 x5 ⟨504 + i.val, by omega⟩ f) := by
  intro x hx
  have h0 : i.val = 0 + (x 0).val := hx 0
  have h1 : f.val = lo + (x 1).val := hx 1
  have l1 : (x 1).val < 1408 := (x 1).isLt
  have e : x = ix2 (⟨(x 0).val, (x 0).isLt⟩ : Fin 8) (⟨(x 1).val, l1⟩ : Fin 1408) := by
    funext a
    match a with
    | ⟨0, _⟩ => rfl
    | ⟨1, _⟩ => rfl
  refine (congrArg (fun y => k0_pay11 (upV x0 x1 x2 x3 x4 x5 lo inb) y) e).trans ?_
  refine (tail_apply _ _ _).trans ((upV_apply x0 x1 x2 x3 x4 x5 lo hlo inb _ _).trans ?_)
  refine congrArg₂ (fun r c => blkUp x0 x1 x2 x3 x4 x5 r c) (Fin.ext ?_) (Fin.ext ?_)
  · show 504 + (x 0).val = 504 + i.val; omega
  · show lo + (x 1).val = f.val; omega

theorem tail_out_tile (inb : ∀ a, ![0, lo] a + ![1024, 1408] a ≤ S1024x5632.size a) (i : Fin 8) (f : Fin 5632) :
    View.TileAt (Val := Elt Ideal) (S := S1x1x8x5632) (e := .f32) (ix4 (0 : Fin 1) (0 : Fin 1) i f) ![0, 0, 0, lo] ![1, 1, 8, 1408] (k0_pay12 (upV x0 x1 x2 x3 x4 x5 lo inb))
      (blkUp x0 x1 x2 x3 x4 x5 ⟨504 + i.val, by omega⟩ f) := by
  intro x hx
  have h0 : i.val = 0 + (x 2).val := hx 2
  have h1 : f.val = lo + (x 3).val := hx 3
  have l1 : (x 3).val < 1408 := (x 3).isLt
  have e : x = ix4 (0 : Fin 1) (0 : Fin 1) (⟨(x 2).val, (x 2).isLt⟩ : Fin 8) (⟨(x 3).val, l1⟩ : Fin 1408) := by
    funext a
    match a with
    | ⟨0, _⟩ => exact Fin.ext (show (x 0).val = 0 by have : (x 0).val < 1 := (x 0).isLt; omega)
    | ⟨1, _⟩ => exact Fin.ext (show (x 1).val = 0 by have : (x 1).val < 1 := (x 1).isLt; omega)
    | ⟨2, _⟩ => rfl
    | ⟨3, _⟩ => rfl
  refine (congrArg (fun y => k0_pay12 (upV x0 x1 x2 x3 x4 x5 lo inb) y) e).trans ?_
  refine (tail_out_apply _ _ _).trans ((upV_apply x0 x1 x2 x3 x4 x5 lo hlo inb _ _).trans ?_)
  refine congrArg₂ (fun r c => blkUp x0 x1 x2 x3 x4 x5 r c) (Fin.ext ?_) (Fin.ext ?_)
  · show 504 + (x 2).val = 504 + i.val; omega
  · show lo + (x 3).val = f.val; omega

end Tails

end Block

/-! ## Reading what was held back -/

/-- Pieces written before others that already cover an index do not matter there. -/
theorem canon_append {S : Shape} {e : EltTy} (L L' : List (View.Piece (Elt Ideal) S e)) (y : S.Idx) (h : ∃ p ∈ L, y ∈ p.1.set) :
    View.canon (L ++ L') y = View.canon L y := by
  induction L with
  | nil => obtain ⟨p, hp, _⟩ := h; exact absurd hp List.not_mem_nil
  | cons p L ih =>
    by_cases hm : y ∈ p.1.set
    · obtain ⟨x, rfl⟩ := p.1.exists_idx_of_mem hm
      exact (View.canon_cons_emb p.1 p.2 (L ++ L') x).trans (View.canon_cons_emb p.1 p.2 L x).symm
    · obtain ⟨q, hq, hy⟩ := h
      rcases List.mem_cons.mp hq with rfl | hq
      · exact absurd hy hm
      · exact (View.canon_cons_of_not_mem p (L ++ L') hm).trans ((ih ⟨q, hq, hy⟩).trans (View.canon_cons_of_not_mem p L hm).symm)

/-- The zeros a batch starts from. -/
theorem zeros_tile (i : Fin 8) (f : Fin 5632) :
    View.TileAt (Val := Elt Ideal) (S := S8x5632) (e := .f32) (ix2 i f) ![0, 0] ![8, 5632] (k0_pay2 : FVec Ideal S8x5632 .f32) (0 : EReal) := by
  intro x hx
  exact (show (k0_pay2 : FVec Ideal S8x5632 .f32) x = Ideal.ofBits .f32 0x00000000#32 from rfl).trans Ideal.ofBits_zero_f32

/-- A slice's piece holds none of the columns of another slice. -/
theorem apart (lo' : ℕ) (w : (⟨2, ![8, 1408]⟩ : Shape).Idx → EReal) (v : EReal) (i : Fin 8) (f : Fin 5632) (h : f.val < lo' ∨ lo' + 1408 ≤ f.val) :
    View.TileAt (Val := Elt Ideal) (S := S8x5632) (e := .f32) (ix2 i f) ![0, lo'] ![8, 1408] w v := by
  intro x hx
  have h1 : f.val = lo' + (x 1).val := hx 1
  have l1 : (x 1).val < 1408 := (x 1).isLt
  omega

/-- What a slice of the rows held back reads, at an index. -/
theorem held_apply (xs : Vec Ideal S8x5632 .f32) (lo : ℕ) (hlo : lo + 1408 ≤ 5632) (inb : ∀ a, ![0, lo] a + ![8, 1408] a ≤ S8x5632.size a) (i : Fin 8) (f : Fin 1408) :
    View.ld xs (Rect.unit (s := S8x5632) ![0, lo] ![8, 1408] inb) (ix2 i f) = xs (ix2 i (⟨lo + f.val, by omega⟩ : Fin 5632)) :=
  View.ld_unit_apply_of xs ![0, lo] ![8, 1408] inb (ix2 i f) (ix2 i (⟨lo + f.val, by omega⟩ : Fin 5632)) fun a => match a with
    | ⟨0, _⟩ => (Nat.zero_add _).symm
    | ⟨1, _⟩ => rfl

end Cert.Kernel2Ideal.Ffn

end
-- ==== Proof.FfnBody.lean ====
/-
  What the feed-forward kernel's body leaves at a point, on the extended reals: the block's result, its last eight widened
  rows written out, and the same rows held back; at a batch's first point over zeros, at another over what was held back.
-/
module

public import proofs.«01_k».proof.Proof.Gen.Kernel2Ideal.Frame
public import proofs.«01_k».proof.Proof.FfnBlock

@[expose] public section

set_option maxRecDepth 16384
set_option Elab.async false

noncomputable section

namespace Cert.Kernel2Ideal.Ffn

open Cert.Kernel2Ideal Cert.Kernel2Ideal.Gen _root_.Ffn
open Idealize.ShloMosaic hiding ix1 ix2 ix3 ix4
open Idealize.ShloMosaic.ValueIdx
open Idealize.ShloMosaic.TcCoe Idealize.ShloMosaic.Tactic
open Idealize.SL Idealize.SL.Sem
open scoped BigOperators

theorem hz2 : (![0, 0] : Fin 2 → Nat) = fun _ => 0 := funext fun a => by fin_cases a <;> rfl
theorem hz3 : (![0, 0, 0] : Fin 3 → Nat) = fun _ => 0 := funext fun a => by fin_cases a <;> rfl

section Body
variable (c : Dev nD) (i : grid0.Coords)
  (a2 : Memref sig .tc .vmem S1x512x1024 .f32) (h2 : a2.IsWhole) (a3 : Memref sig .tc .vmem S1x512x1024 .f32) (h3 : a3.IsWhole)
  (a4 : Memref sig .tc .vmem S1024x1024 .bf16) (h4 : a4.IsWhole) (a5 : Memref sig .tc .vmem S1x1024 .f32) (h5 : a5.IsWhole)
  (a6 : Memref sig .tc .vmem S1x1024 .f32) (h6 : a6.IsWhole) (a7 : Memref sig .tc .vmem S1024x5632 .bf16) (h7 : a7.IsWhole)
  (a8 : Memref sig .tc .vmem S3x5632 .f32) (h8 : a8.IsWhole) (a9 : Memref sig .tc .vmem S1x5632 .f32) (h9 : a9.IsWhole)
  (a10 : Memref sig .tc .vmem S2816x1024 .bf16) (h10 : a10.IsWhole) (a11 : Memref sig .tc .vmem S1x1024 .f32) (h11 : a11.IsWhole)
  (a12 : Memref sig .tc .vmem S1x1024 .f32) (h12 : a12.IsWhole) (a13 : Memref sig .tc .vmem S1x512x1024 .f32) (h13 : a13.IsWhole)
  (a14 : Memref sig .tc .vmem S1x1x8x5632 .f32) (h14 : a14.IsWhole) (a15 : Memref sig .tc .vmem S8x5632 .f32) (h15 : a15.IsWhole)
  (x0 x1 : Vec Ideal S1x512x1024 .f32) (x2 : Vec Ideal S1024x1024 .bf16) (x3 x4 : Vec Ideal S1x1024 .f32) (x5 : Vec Ideal S1024x5632 .bf16)
  (x6 : Vec Ideal S3x5632 .f32) (x7 : Vec Ideal S1x5632 .f32) (x8 : Vec Ideal S2816x1024 .bf16) (x9 x10 : Vec Ideal S1x1024 .f32) (xs : Vec Ideal S8x5632 .f32)

/-- The four pieces the body holds back, last first, and the four it writes out. -/
def heldPieces : List (View.Piece (Elt Ideal) S8x5632 .f32) :=
  [⟨Rect.unit (s := S8x5632) ![0, 4224] ![8, 1408] inb_S8x5632_S8x1408_0_4224, k0_pay11 (upV x0 x1 x2 x3 x4 x5 4224 inb_S1024x5632_S1024x1408_0_4224)⟩,
    ⟨Rect.unit (s := S8x5632) ![0, 1408] ![8, 1408] inb_S8x5632_S8x1408_0_1408, k0_pay11 (upV x0 x1 x2 x3 x4 x5 1408 inb_S1024x5632_S1024x1408_0_1408)⟩,
    ⟨Rect.unit (s := S8x5632) ![0, 2816] ![8, 1408] inb_S8x5632_S8x1408_0_2816, k0_pay11 (upV x0 x1 x2 x3 x4 x5 2816 inb_S1024x5632_S1024x1408_0_2816)⟩,
    ⟨Rect.unit (s := S8x5632) ![0, 0] ![8, 1408] inb_S8x5632_S8x1408_0_0, k0_pay11 (upV x0 x1 x2 x3 x4 x5 0 inb_S1024x5632_S1024x1408_0_0)⟩]
def outPieces : List (View.Piece (Elt Ideal) S1x1x8x5632 .f32) :=
  [⟨Rect.unit (s := S1x1x8x5632) ![0, 0, 0, 4224] ![1, 1, 8, 1408] inb_S1x1x8x5632_S1x1x8x1408_0_0_0_4224, k0_pay12 (upV x0 x1 x2 x3 x4 x5 4224 inb_S1024x5632_S1024x1408_0_4224)⟩,
    ⟨Rect.unit (s := S1x1x8x5632) ![0, 0, 0, 1408] ![1, 1, 8, 1408] inb_S1x1x8x5632_S1x1x8x1408_0_0_0_1408, k0_pay12 (upV x0 x1 x2 x3 x4 x5 1408 inb_S1024x5632_S1024x1408_0_1408)⟩,
    ⟨Rect.unit (s := S1x1x8x5632) ![0, 0, 0, 2816] ![1, 1, 8, 1408] inb_S1x1x8x5632_S1x1x8x1408_0_0_0_2816, k0_pay12 (upV x0 x1 x2 x3 x4 x5 2816 inb_S1024x5632_S1024x1408_0_2816)⟩,
    ⟨Rect.unit (s := S1x1x8x5632) ![0, 0, 0, 0] ![1, 1, 8, 1408] inb_S1x1x8x5632_S1x1x8x1408_0_0_0_0, k0_pay12 (upV x0 x1 x2 x3 x4 x5 0 inb_S1024x5632_S1024x1408_0_0)⟩]

theorem heldPieces_cover (y : S8x5632.Idx) : ∃ p ∈ heldPieces x0 x1 x2 x3 x4 x5, y ∈ p.1.set := View.cover_of_tiled _ ![8, 1408] (by sl_kernel_rfl) y
theorem outPieces_cover (y : S1x1x8x5632.Idx) : ∃ p ∈ outPieces x0 x1 x2 x3 x4 x5, y ∈ p.1.set := View.cover_of_tiled _ ![1, 1, 8, 1408] (by sl_kernel_rfl) y

theorem heldPieces_apply (r : Fin 8) (f : Fin 5632) :
    View.canon (heldPieces x0 x1 x2 x3 x4 x5) (ix2 r f) = blkUp x0 x1 x2 x3 x4 x5 ⟨504 + r.val, by omega⟩ f :=
  View.canon_eq_of_allAt _ _ _ (heldPieces_cover x0 x1 x2 x3 x4 x5 _)
    (View.allAt_cons_unit _ _ _ _ _ (tail_tile x0 x1 x2 x3 x4 x5 4224 (by omega) _ r f)
      (View.allAt_cons_unit _ _ _ _ _ (tail_tile x0 x1 x2 x3 x4 x5 1408 (by omega) _ r f)
        (View.allAt_cons_unit _ _ _ _ _ (tail_tile x0 x1 x2 x3 x4 x5 2816 (by omega) _ r f)
          (View.allAt_cons_unit _ _ _ _ _ (tail_tile x0 x1 x2 x3 x4 x5 0 (by omega) _ r f) (View.allAt_nil _ _)))))

theorem outPieces_apply (r : Fin 8) (f : Fin 5632) :
    View.canon (outPieces x0 x1 x2 x3 x4 x5) (ix4 (0 : Fin 1) (0 : Fin 1) r f) = blkUp x0 x1 x2 x3 x4 x5 ⟨504 + r.val, by omega⟩ f :=
  View.canon_eq_of_allAt _ _ _ (outPieces_cover x0 x1 x2 x3 x4 x5 _)
    (View.allAt_cons_unit _ _ _ _ _ (tail_out_tile x0 x1 x2 x3 x4 x5 4224 (by omega) _ r f)
      (View.allAt_cons_unit _ _ _ _ _ (tail_out_tile x0 x1 x2 x3 x4 x5 1408 (by omega) _ r f)
        (View.allAt_cons_unit _ _ _ _ _ (tail_out_tile x0 x1 x2 x3 x4 x5 2816 (by omega) _ r f)
          (View.allAt_cons_unit _ _ _ _ _ (tail_out_tile x0 x1 x2 x3 x4 x5 0 (by omega) _ r f) (View.allAt_nil _ _)))))

/-- The zeros a batch starts from, as a piece; and what is read of them after some slices were written. -/
def zeroPiece : View.Piece (Elt Ideal) S8x5632 .f32 := ⟨Rect.unit (s := S8x5632) ![0, 0] ![8, 5632] inb_S8x5632_S8x5632_0_0, (k0_pay2 : FVec Ideal S8x5632 .f32)⟩

theorem zeroPiece_mem (L : List (View.Piece (Elt Ideal) S8x5632 .f32)) (y : S8x5632.Idx) : ∃ p ∈ L ++ [zeroPiece], y ∈ p.1.set :=
  ⟨zeroPiece, List.mem_append_right _ List.mem_cons_self, by
    unfold zeroPiece
    rw [Rect.mem_set_unit]
    intro a
    match a with
    | ⟨0, _⟩ => exact ⟨Nat.zero_le _, by have : (y 0).val < 8 := (y 0).isLt; show (y 0).val < 0 + 8; omega⟩
    | ⟨1, _⟩ => exact ⟨Nat.zero_le _, by have : (y 1).val < 5632 := (y 1).isLt; show (y 1).val < 0 + 5632; omega⟩⟩

/-- A slice read back where only zeros were written. -/
theorem zeros_read (L : List (View.Piece (Elt Ideal) S8x5632 .f32)) (lo : ℕ) (hlo : lo + 1408 ≤ 5632) (inb : ∀ a, ![0, lo] a + ![8, 1408] a ≤ S8x5632.size a)
    (hL : ∀ (r : Fin 8) (f : Fin 5632), lo ≤ f.val → f.val < lo + 1408 → View.AllAt L (ix2 r f) (0 : EReal)) (r : Fin 8) (f : Fin 1408) :
    a15.view.readCov (L ++ [zeroPiece]) (Rect.unit (s := S8x5632) ![0, lo] ![8, 1408] inb).toLoadRect (ix2 r f) = (0 : EReal) := by
  rw [View.readCov_eq_canon']
  refine (held_apply (View.canon (L ++ [zeroPiece])) lo hlo inb r f).trans ?_
  refine View.canon_eq_of_allAt _ _ _ (zeroPiece_mem L _) fun p hp => ?_
  rcases List.mem_append.mp hp with hp | hp
  · exact hL r ⟨lo + f.val, by omega⟩ (Nat.le_add_right _ _) (show lo + f.val < lo + 1408 by omega) p hp
  · exact View.allAt_cons_unit _ _ _ _ _ (zeros_tile r ⟨lo + f.val, by omega⟩) (View.allAt_nil _ _) p hp

/-- The body's result over the four slices of the rows held back that it reads. -/
def overHeld (c0 c1 c2 c3 : Vec Ideal S8x1408 .f32) : FVec Ideal S1x512x1024 .f32 :=
  bodyV x0 x1 x2 x3 x4 x8 x9 x10
    (convV (upV x0 x1 x2 x3 x4 x5 0 inb_S1024x5632_S1024x1408_0_0) c0 (tSlice x6 0 inb_S3x5632_S3x1408_0_0) (bSlice x7 0 inb_S1x5632_S1x1408_0_0))
    (convV (upV x0 x1 x2 x3 x4 x5 2816 inb_S1024x5632_S1024x1408_0_2816) c1 (tSlice x6 2816 inb_S3x5632_S3x1408_0_2816) (bSlice x7 2816 inb_S1x5632_S1x1408_0_2816))
    (convV (upV x0 x1 x2 x3 x4 x5 1408 inb_S1024x5632_S1024x1408_0_1408) c2 (tSlice x6 1408 inb_S3x5632_S3x1408_0_1408) (bSlice x7 1408 inb_S1x5632_S1x1408_0_1408))
    (convV (upV x0 x1 x2 x3 x4 x5 4224 inb_S1024x5632_S1024x1408_0_4224) c3 (tSlice x6 4224 inb_S3x5632_S3x1408_0_4224) (bSlice x7 4224 inb_S1x5632_S1x1408_0_4224))
    inb_S2816x1024_S1408x1024_0_0 inb_S2816x1024_S1408x1024_1408_0

theorem overHeld_apply (held : Fin 8 → Fin 5632 → EReal) (c0 c1 c2 c3 : Vec Ideal S8x1408 .f32)
    (e0 : ∀ r f, c0 (ix2 r f) = held r ⟨0 + f.val, by omega⟩) (e1 : ∀ r f, c1 (ix2 r f) = held r ⟨2816 + f.val, by omega⟩)
    (e2 : ∀ r f, c2 (ix2 r f) = held r ⟨1408 + f.val, by omega⟩) (e3 : ∀ r f, c3 (ix2 r f) = held r ⟨4224 + f.val, by omega⟩) (R : Fin 512) (d : Fin 1024) :
    overHeld x0 x1 x2 x3 x4 x5 x6 x7 x8 x9 x10 c0 c1 c2 c3 (ix3 (0 : Fin 1) R d) = blkResult x0 x1 x2 x3 x4 x5 x6 x7 x8 x9 x10 held R d :=
  bodyV_apply x0 x1 x2 x3 x4 x5 x6 x7 x8 x9 x10 held _ _ _ _ _ _
    (conv_slice x0 x1 x2 x3 x4 x5 x6 x7 0 (by omega) _ _ _ held c0 e0)
    (conv_slice x0 x1 x2 x3 x4 x5 x6 x7 2816 (by omega) _ _ _ held c1 e1)
    (conv_slice x0 x1 x2 x3 x4 x5 x6 x7 1408 (by omega) _ _ _ held c2 e2)
    (conv_slice x0 x1 x2 x3 x4 x5 x6 x7 4224 (by omega) _ _ _ held c3 e3) R d

/-! ## A batch's later points -/

theorem out_later (hc : ¬cond0_0 i) (R : Fin 512) (d : Fin 1024) :
    out0_B_11 c i a2 h2 a3 h3 a4 h4 a5 h5 a6 h6 a7 h7 a8 h8 a9 h9 a10 h10 a11 h11 a12 h12 a13 h13 a14 h14 a15 h15 hc x0 x1 x2 x3 x4 x5 x6 x7 x8 x9 x10 xs (ix3 (0 : Fin 1) R d)
      = blkResult x0 x1 x2 x3 x4 x5 x6 x7 x8 x9 x10 (fun r f => xs (ix2 r f)) R d := by
  unfold out0_B_11
  rw [View.read_writes_eq_canon _ _ _ (cover0_B_11 c i a2 h2 a3 h3 a4 h4 a5 h5 a6 h6 a7 h7 a8 h8 a9 h9 a10 h10 a11 h11 a12 h12 a13 h13 a14 h14 a15 h15 hc x0 x1 x2 x3 x4 x5 x6 x7 x8 x9 x10 xs)]
  unfold kernelRun0_B
  dsimp only
  sl_unfold_words
  rw [View.canon_unit_zero (S := S1x512x1024) hz3]
  simp only [View.readAt_eq_ld, h2.read_unread, h3.read_unread, h4.read_unread, h5.read_unread, h6.read_unread, h7.read_unread, h8.read_unread, h9.read_unread, h10.read_unread,
    h11.read_unread, h12.read_unread, h15.read_unread, View.ld_unit_zero (S := S1x512x1024) hz3, View.ld_unit_zero (S := S1024x1024) hz2, View.ld_unit_zero (S := S1x1024) hz2]
  exact overHeld_apply x0 x1 x2 x3 x4 x5 x6 x7 x8 x9 x10 (fun r f => xs (ix2 r f))
    (View.ld xs (Rect.unit (s := S8x5632) ![0, 0] ![8, 1408] inb_S8x5632_S8x1408_0_0)) (View.ld xs (Rect.unit (s := S8x5632) ![0, 2816] ![8, 1408] inb_S8x5632_S8x1408_0_2816))
    (View.ld xs (Rect.unit (s := S8x5632) ![0, 1408] ![8, 1408] inb_S8x5632_S8x1408_0_1408)) (View.ld xs (Rect.unit (s := S8x5632) ![0, 4224] ![8, 1408] inb_S8x5632_S8x1408_0_4224))
    (held_apply xs 0 (by omega) _) (held_apply xs 2816 (by omega) _) (held_apply xs 1408 (by omega) _) (held_apply xs 4224 (by omega) _) R d

theorem tail_later (hc : ¬cond0_0 i) (r : Fin 8) (f : Fin 5632) :
    out0_B_12 c i a2 h2 a3 h3 a4 h4 a5 h5 a6 h6 a7 h7 a8 h8 a9 h9 a10 h10 a11 h11 a12 h12 a13 h13 a14 h14 a15 h15 hc x0 x1 x2 x3 x4 x5 x6 x7 x8 x9 x10 xs (ix4 (0 : Fin 1) (0 : Fin 1) r f)
      = blkUp x0 x1 x2 x3 x4 x5 ⟨504 + r.val, by omega⟩ f := by
  unfold out0_B_12
  rw [View.read_writes_eq_canon _ _ _ (cover0_B_12 c i a2 h2 a3 h3 a4 h4 a5 h5 a6 h6 a7 h7 a8 h8 a9 h9 a10 h10 a11 h11 a12 h12 a13 h13 a14 h14 a15 h15 hc x0 x1 x2 x3 x4 x5 x6 x7 x8 x9 x10 xs)]
  unfold kernelRun0_B
  dsimp only
  sl_unfold_words
  simp only [View.readAt_eq_ld, h2.read_unread, h3.read_unread, h4.read_unread, h5.read_unread, h6.read_unread, h7.read_unread, h8.read_unread, h9.read_unread, h10.read_unread,
    h11.read_unread, h12.read_unread, h15.read_unread, View.ld_unit_zero (S := S1x512x1024) hz3, View.ld_unit_zero (S := S1024x1024) hz2, View.ld_unit_zero (S := S1x1024) hz2]
  exact outPieces_apply x0 x1 x2 x3 x4 x5 r f

theorem held_later (hc : ¬cond0_0 i) (r : Fin 8) (f : Fin 5632) :
    sout0_B_0 c i a2 h2 a3 h3 a4 h4 a5 h5 a6 h6 a7 h7 a8 h8 a9 h9 a10 h10 a11 h11 a12 h12 a13 h13 a14 h14 a15 h15 hc x0 x1 x2 x3 x4 x5 x6 x7 x8 x9 x10 xs (ix2 r f)
      = blkUp x0 x1 x2 x3 x4 x5 ⟨504 + r.val, by omega⟩ f := by
  unfold sout0_B_0
  rw [View.read_writes_eq_canon _ _ _ (scover0_B_0 c i a2 h2 a3 h3 a4 h4 a5 h5 a6 h6 a7 h7 a8 h8 a9 h9 a10 h10 a11 h11 a12 h12 a13 h13 a14 h14 a15 h15 hc x0 x1 x2 x3 x4 x5 x6 x7 x8 x9 x10 xs)]
  unfold kernelRun0_B
  dsimp only
  sl_unfold_words
  simp only [View.readAt_eq_ld, h2.read_unread, h3.read_unread, h4.read_unread, h5.read_unread, h6.read_unread, h7.read_unread, h8.read_unread, h9.read_unread, h10.read_unread,
    h11.read_unread, h12.read_unread, h15.read_unread, View.ld_unit_zero (S := S1x512x1024) hz3, View.ld_unit_zero (S := S1024x1024) hz2, View.ld_unit_zero (S := S1x1024) hz2]
  exact heldPieces_apply x0 x1 x2 x3 x4 x5 r f

/-! ## A batch's first point -/

theorem out_first (hc : cond0_0 i) (R : Fin 512) (d : Fin 1024) :
    out0_A_11 c i a2 h2 a3 h3 a4 h4 a5 h5 a6 h6 a7 h7 a8 h8 a9 h9 a10 h10 a11 h11 a12 h12 a13 h13 a14 h14 a15 h15 hc x0 x1 x2 x3 x4 x5 x6 x7 x8 x9 x10 (ix3 (0 : Fin 1) R d)
      = blkResult x0 x1 x2 x3 x4 x5 x6 x7 x8 x9 x10 (fun _ _ => 0) R d := by
  unfold out0_A_11
  rw [View.read_writes_eq_canon _ _ _ (cover0_A_11 c i a2 h2 a3 h3 a4 h4 a5 h5 a6 h6 a7 h7 a8 h8 a9 h9 a10 h10 a11 h11 a12 h12 a13 h13 a14 h14 a15 h15 hc x0 x1 x2 x3 x4 x5 x6 x7 x8 x9 x10)]
  unfold kernelRun0_A
  dsimp only
  sl_unfold_words
  rw [View.canon_unit_zero (S := S1x512x1024) hz3]
  simp only [View.readAt_eq_ld, h2.read_unread, h3.read_unread, h4.read_unread, h5.read_unread, h6.read_unread, h7.read_unread, h8.read_unread, h9.read_unread, h10.read_unread,
    h11.read_unread, h12.read_unread, h15.read_unread, View.ld_unit_zero (S := S1x512x1024) hz3, View.ld_unit_zero (S := S1024x1024) hz2, View.ld_unit_zero (S := S1x1024) hz2]
  refine overHeld_apply x0 x1 x2 x3 x4 x5 x6 x7 x8 x9 x10 (fun _ _ => 0)
    (a15.view.readCov ([] ++ [zeroPiece]) (Rect.unit (s := S8x5632) ![0, 0] ![8, 1408] inb_S8x5632_S8x1408_0_0).toLoadRect)
    (a15.view.readCov ((heldPieces x0 x1 x2 x3 x4 x5).drop 3 ++ [zeroPiece]) (Rect.unit (s := S8x5632) ![0, 2816] ![8, 1408] inb_S8x5632_S8x1408_0_2816).toLoadRect)
    (a15.view.readCov ((heldPieces x0 x1 x2 x3 x4 x5).drop 2 ++ [zeroPiece]) (Rect.unit (s := S8x5632) ![0, 1408] ![8, 1408] inb_S8x5632_S8x1408_0_1408).toLoadRect)
    (a15.view.readCov ((heldPieces x0 x1 x2 x3 x4 x5).drop 1 ++ [zeroPiece]) (Rect.unit (s := S8x5632) ![0, 4224] ![8, 1408] inb_S8x5632_S8x1408_0_4224).toLoadRect)
    (zeros_read a15 _ 0 (by omega) _ fun r f l u => View.allAt_nil _ _)
    (zeros_read a15 _ 2816 (by omega) _ fun r f l u => View.allAt_cons_unit _ _ _ _ _ (apart 0 _ _ r f (by omega)) (View.allAt_nil _ _))
    (zeros_read a15 _ 1408 (by omega) _ fun r f l u => View.allAt_cons_unit _ _ _ _ _ (apart 2816 _ _ r f (by omega))
      (View.allAt_cons_unit _ _ _ _ _ (apart 0 _ _ r f (by omega)) (View.allAt_nil _ _)))
    (zeros_read a15 _ 4224 (by omega) _ fun r f l u => View.allAt_cons_unit _ _ _ _ _ (apart 1408 _ _ r f (by omega))
      (View.allAt_cons_unit _ _ _ _ _ (apart 2816 _ _ r f (by omega))
        (View.allAt_cons_unit _ _ _ _ _ (apart 0 _ _ r f (by omega)) (View.allAt_nil _ _)))) R d

theorem tail_first (hc : cond0_0 i) (r : Fin 8) (f : Fin 5632) :
    out0_A_12 c i a2 h2 a3 h3 a4 h4 a5 h5 a6 h6 a7 h7 a8 h8 a9 h9 a10 h10 a11 h11 a12 h12 a13 h13 a14 h14 a15 h15 hc x0 x1 x2 x3 x4 x5 x6 x7 x8 x9 x10 (ix4 (0 : Fin 1) (0 : Fin 1) r f)
      = blkUp x0 x1 x2 x3 x4 x5 ⟨504 + r.val, by omega⟩ f := by
  unfold out0_A_12
  rw [View.read_writes_eq_canon _ _ _ (cover0_A_12 c i a2 h2 a3 h3 a4 h4 a5 h5 a6 h6 a7 h7 a8 h8 a9 h9 a10 h10 a11 h11 a12 h12 a13 h13 a14 h14 a15 h15 hc x0 x1 x2 x3 x4 x5 x6 x7 x8 x9 x10)]
  unfold kernelRun0_A
  dsimp only
  sl_unfold_words
  simp only [View.readAt_eq_ld, h2.read_unread, h3.read_unread, h4.read_unread, h5.read_unread, h6.read_unread, h7.read_unread, h8.read_unread, h9.read_unread, h10.read_unread,
    h11.read_unread, h12.read_unread, h15.read_unread, View.ld_unit_zero (S := S1x512x1024) hz3, View.ld_unit_zero (S := S1024x1024) hz2, View.ld_unit_zero (S := S1x1024) hz2]
  exact outPieces_apply x0 x1 x2 x3 x4 x5 r f

theorem held_first (hc : cond0_0 i) (r : Fin 8) (f : Fin 5632) :
    sout0_A_0 c i a2 h2 a3 h3 a4 h4 a5 h5 a6 h6 a7 h7 a8 h8 a9 h9 a10 h10 a11 h11 a12 h12 a13 h13 a14 h14 a15 h15 hc x0 x1 x2 x3 x4 x5 x6 x7 x8 x9 x10 (ix2 r f)
      = blkUp x0 x1 x2 x3 x4 x5 ⟨504 + r.val, by omega⟩ f := by
  unfold sout0_A_0
  rw [View.read_writes_eq_canon _ _ _ (scover0_A_0 c i a2 h2 a3 h3 a4 h4 a5 h5 a6 h6 a7 h7 a8 h8 a9 h9 a10 h10 a11 h11 a12 h12 a13 h13 a14 h14 a15 h15 hc x0 x1 x2 x3 x4 x5 x6 x7 x8 x9 x10)]
  unfold kernelRun0_A
  dsimp only
  sl_unfold_words
  simp only [View.readAt_eq_ld, h2.read_unread, h3.read_unread, h4.read_unread, h5.read_unread, h6.read_unread, h7.read_unread, h8.read_unread, h9.read_unread, h10.read_unread,
    h11.read_unread, h12.read_unread, h15.read_unread, View.ld_unit_zero (S := S1x512x1024) hz3, View.ld_unit_zero (S := S1024x1024) hz2, View.ld_unit_zero (S := S1x1024) hz2]
  exact (canon_append (heldPieces x0 x1 x2 x3 x4 x5) [zeroPiece] (ix2 r f) (heldPieces_cover x0 x1 x2 x3 x4 x5 _)).trans (heldPieces_apply x0 x1 x2 x3 x4 x5 r f)

end Body

end Cert.Kernel2Ideal.Ffn

end
-- ==== Proof.FfnWhole.lean ====
/-
  The feed-forward block over whole arrays, and how a row's predecessors lie in the blocks of 512 rows.
-/
module

public import proofs.«01_k».proof.Proof.FfnSpec

@[expose] public section

noncomputable section

namespace Ffn

open Idealize.ShloMosaic
open scoped BigOperators

/-- The arguments, as extended reals by their coordinates. -/
structure Args where
  x : Fin 2 → Fin 8192 → Fin 1024 → EReal
  mo : Fin 2 → Fin 8192 → Fin 1024 → EReal
  wm : Fin 1024 → Fin 1024 → EReal
  g2 : Fin 1024 → EReal
  b2 : Fin 1024 → EReal
  wu : Fin 1024 → Fin 5632 → EReal
  cw : Fin 3 → Fin 5632 → EReal
  cb : Fin 5632 → EReal
  wd : Fin 2816 → Fin 1024 → EReal
  g3 : Fin 1024 → EReal
  b3 : Fin 1024 → EReal

namespace Args
variable (A : Args)

/-- A row after the memory projection; widened; convolved; and the block's result on it. -/
def mix (b : Fin 2) (t : Fin 8192) : Fin 1024 → EReal := mixed (A.x b t) (A.mo b t) A.wm A.g2 A.b2
def up (b : Fin 2) (t : Fin 8192) : Fin 5632 → EReal := widened (A.mix b t) A.wu
def conv (b : Fin 2) (t : Fin 8192) (f : Fin 5632) : EReal :=
  taps (fun k => A.cw k f) (A.cb f) (before (fun t => A.up b t f) 2 t) (before (fun t => A.up b t f) 1 t) (A.up b t f)
def out (b : Fin 2) (t : Fin 8192) : Fin 1024 → EReal := result (A.mix b t) (A.conv b t) A.wd A.g3 A.b3

end Args

/-- Row `r` of block `j`, and its place among the rows. -/
def rowIn (j : Fin 16) (r : Fin 512) : Fin 8192 := ⟨j.val * 512 + r.val, by omega⟩

/-- Row `i` of the last eight of a block. -/
def lastEight (i : Fin 8) : Fin 512 := ⟨504 + i.val, by omega⟩

/-- In the first block nothing comes before. -/
theorem before_first (u : Fin 8192 → EReal) (j : Fin 16) (hj : j.val = 0) (k : Nat) (R : Fin 512) :
    rowBack (fun _ => 0) (fun r => u (rowIn j r)) k R = before u k (rowIn j R) := by
  unfold rowBack before rowIn
  dsimp only
  by_cases h : k ≤ R.val
  · rw [dif_pos h, dif_pos (by omega)]
    exact congrArg u (Fin.ext (show j.val * 512 + (R.val - k) = j.val * 512 + R.val - k by omega))
  · rw [dif_neg h, dif_neg (show ¬k ≤ j.val * 512 + R.val by omega)]
    split <;> rfl

/-- In a later block the block before it comes before. -/
theorem before_later (u : Fin 8192 → EReal) (j i : Fin 16) (hj : j.val = i.val + 1) (k : Nat) (hk : k ≤ 8) (R : Fin 512) :
    rowBack (fun r => u (rowIn i (lastEight r))) (fun r => u (rowIn j r)) k R = before u k (rowIn j R) := by
  unfold rowBack before rowIn lastEight
  dsimp only
  by_cases h : k ≤ R.val
  · rw [dif_pos h, dif_pos (by omega)]
    exact congrArg u (Fin.ext (show j.val * 512 + (R.val - k) = j.val * 512 + R.val - k by omega))
  · rw [dif_neg h, dif_pos (show 8 + R.val - k < 8 by omega), dif_pos (show k ≤ j.val * 512 + R.val by omega)]
    exact congrArg u (Fin.ext (show i.val * 512 + (504 + (8 + R.val - k)) = j.val * 512 + R.val - k by omega))

end Ffn

end
-- ==== Proof.FfnResult.lean ====
/-
  What the feed-forward kernel returns, on the extended reals: a point's blocks are rows of the arguments, what is held
  back is the last eight widened rows of the block before, and the blocks written back make up the two results.
-/
module

public import proofs.«01_k».proof.Proof.Gen.Kernel2Ideal.Value
public import proofs.«01_k».proof.Proof.FfnBody
public import proofs.«01_k».proof.Proof.FfnWhole

@[expose] public section

set_option maxRecDepth 16384
set_option Elab.async false

noncomputable section

namespace Cert.Kernel2Ideal.Ffn

open Cert.Kernel2Ideal Cert.Kernel2Ideal.Gen _root_.Ffn
open Idealize.ShloMosaic hiding ix1 ix2 ix3 ix4
open Idealize.ShloMosaic.ValueIdx
open Idealize.ShloMosaic.TcCoe Idealize.ShloMosaic.Tactic
open Idealize.SL Idealize.SL.Sem
open Idealize.ShloMosaic.Pipeline (Dat)
open scoped BigOperators

/-- Arrays of the arguments' shapes, read by their coordinates. -/
def ofArrays (a0 a1 : S2x8192x1024.Idx → EReal) (a2 : S1024x1024.Idx → EReal) (a3 a4 : S1x1024.Idx → EReal) (a5 : S1024x5632.Idx → EReal)
    (a6 : S3x5632.Idx → EReal) (a7 : S1x5632.Idx → EReal) (a8 : S2816x1024.Idx → EReal) (a9 a10 : S1x1024.Idx → EReal) : Args where
  x b t d := a0 (ix3 b t d)
  mo b t d := a1 (ix3 b t d)
  wm e d := a2 (ix2 e d)
  g2 d := a3 (ix2 (0 : Fin 1) d)
  b2 d := a4 (ix2 (0 : Fin 1) d)
  wu d f := a5 (ix2 d f)
  cw k f := a6 (ix2 k f)
  cb f := a7 (ix2 (0 : Fin 1) f)
  wd f d := a8 (ix2 f d)
  g3 d := a9 (ix2 (0 : Fin 1) d)
  b3 d := a10 (ix2 (0 : Fin 1) d)

/-- The two results as arrays: the block's result, and the last eight widened rows of every 512. -/
def outArr (A : Args) : S2x8192x1024.Idx → EReal := fun i => A.out (i 0) (i 1) (i 2)
def tailArr (A : Args) : S2x16x8x5632.Idx → EReal := fun i => A.up (i 0) (rowIn (i 1) (lastEight (i 2))) (i 3)

variable (m : (ℓ : Loc nD τ sig) → Buf (Elt Ideal) ℓ) (c : Dev nD) (ρ : Dev nD → PrngReg)

/-- The call's arguments. -/
def args : Args :=
  ofArrays (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10))

/-! ## The blocks a point reads -/

theorem rowIdx : ∀ t : Fin cfg0.N, win0_0.index t = ![t.val / 16, t.val % 16, 0] ∧ win0_1.index t = ![t.val / 16, t.val % 16, 0]
    ∧ win0_11.index t = ![t.val / 16, t.val % 16, 0] ∧ win0_12.index t = ![t.val / 16, t.val % 16, 0, 0] :=
  (by decide +kernel : ∀ t : Fin grid0.N, _)

theorem wholeIdx : ∀ t : Fin cfg0.N, (win0_2.index t = ![0, 0] ∧ win0_3.index t = ![0, 0] ∧ win0_4.index t = ![0, 0])
    ∧ (win0_5.index t = ![0, 0] ∧ win0_6.index t = ![0, 0] ∧ win0_7.index t = ![0, 0])
    ∧ (win0_8.index t = ![0, 0] ∧ win0_9.index t = ![0, 0] ∧ win0_10.index t = ![0, 0]) :=
  (by decide +kernel : ∀ t : Fin grid0.N, _)

theorem lt32 (t : Fin cfg0.N) : t.val < 32 := lt_of_lt_of_eq t.isLt N_0

/-- A point's batch, and its block of rows. -/
def bt (t : Fin cfg0.N) : Fin 2 := ⟨t.val / 16, by have := lt32 t; omega⟩
def jt (t : Fin cfg0.N) : Fin 16 := ⟨t.val % 16, by omega⟩

/-- A place in a block that starts at the array's start. -/
theorem at_start {i : Fin 2 → ℕ} (h : i = ![0, 0]) (a : Fin 2) (n v : ℕ) : i a * n + 1 * v = v := by
  have : i a = 0 := by rw [h]; fin_cases a <;> rfl
  rw [this, Nat.zero_mul, Nat.zero_add, Nat.one_mul]

theorem block0 (t : Fin cfg0.N) (R : Fin 512) (d : Fin 1024) :
    (iblk m c 0 t : Vec Ideal S1x512x1024 .f32) (ix3 (0 : Fin 1) R d) = (args m c).x (bt t) (rowIn (jt t) R) d := by
  have hi := (rowIdx t).1
  unfold iblk
  rw [View.read_apply]
  show m ((c : Thread nD τ).loc main_arg0) _ = m ((c : Thread nD τ).loc main_arg0) _
  refine congrArg _ (funext fun a => Fin.ext ?_)
  match a with
  | ⟨0, _⟩ => show win0_0.index t 0 * 1 + 1 * 0 = t.val / 16; rw [hi]; show t.val / 16 * 1 + 1 * 0 = _; omega
  | ⟨1, _⟩ => show win0_0.index t 1 * 512 + 1 * R.val = t.val % 16 * 512 + R.val; rw [hi]; show t.val % 16 * 512 + 1 * R.val = _; omega
  | ⟨2, _⟩ => show win0_0.index t 2 * 1024 + 1 * d.val = d.val; rw [hi]; show 0 * 1024 + 1 * d.val = _; omega

theorem block1 (t : Fin cfg0.N) (R : Fin 512) (d : Fin 1024) :
    (iblk m c 1 t : Vec Ideal S1x512x1024 .f32) (ix3 (0 : Fin 1) R d) = (args m c).mo (bt t) (rowIn (jt t) R) d := by
  have hi := (rowIdx t).2.1
  unfold iblk
  rw [View.read_apply]
  show m ((c : Thread nD τ).loc main_arg1) _ = m ((c : Thread nD τ).loc main_arg1) _
  refine congrArg _ (funext fun a => Fin.ext ?_)
  match a with
  | ⟨0, _⟩ => show win0_1.index t 0 * 1 + 1 * 0 = t.val / 16; rw [hi]; show t.val / 16 * 1 + 1 * 0 = _; omega
  | ⟨1, _⟩ => show win0_1.index t 1 * 512 + 1 * R.val = t.val % 16 * 512 + R.val; rw [hi]; show t.val % 16 * 512 + 1 * R.val = _; omega
  | ⟨2, _⟩ => show win0_1.index t 2 * 1024 + 1 * d.val = d.val; rw [hi]; show 0 * 1024 + 1 * d.val = _; omega

/-- The other windows hold their whole arrays. -/
theorem block2 (t : Fin cfg0.N) : (iblk m c 2 t : Vec Ideal S1024x1024 .bf16) = m ((c : Thread nD τ).loc main_arg2) :=
  funext fun y => congrArg (m ((c : Thread nD τ).loc main_arg2)) (funext fun a => Fin.ext (at_start (wholeIdx t).1.1 a _ _))
theorem block3 (t : Fin cfg0.N) : (iblk m c 3 t : Vec Ideal S1x1024 .f32) = m ((c : Thread nD τ).loc main_arg3) :=
  funext fun y => congrArg (m ((c : Thread nD τ).loc main_arg3)) (funext fun a => Fin.ext (at_start (wholeIdx t).1.2.1 a _ _))
theorem block4 (t : Fin cfg0.N) : (iblk m c 4 t : Vec Ideal S1x1024 .f32) = m ((c : Thread nD τ).loc main_arg4) :=
  funext fun y => congrArg (m ((c : Thread nD τ).loc main_arg4)) (funext fun a => Fin.ext (at_start (wholeIdx t).1.2.2 a _ _))
theorem block5 (t : Fin cfg0.N) : (iblk m c 5 t : Vec Ideal S1024x5632 .bf16) = m ((c : Thread nD τ).loc main_arg5) :=
  funext fun y => congrArg (m ((c : Thread nD τ).loc main_arg5)) (funext fun a => Fin.ext (at_start (wholeIdx t).2.1.1 a _ _))
theorem block6 (t : Fin cfg0.N) : (iblk m c 6 t : Vec Ideal S3x5632 .f32) = m ((c : Thread nD τ).loc main_arg6) :=
  funext fun y => congrArg (m ((c : Thread nD τ).loc main_arg6)) (funext fun a => Fin.ext (at_start (wholeIdx t).2.1.2.1 a _ _))
theorem block7 (t : Fin cfg0.N) : (iblk m c 7 t : Vec Ideal S1x5632 .f32) = m ((c : Thread nD τ).loc main_arg7) :=
  funext fun y => congrArg (m ((c : Thread nD τ).loc main_arg7)) (funext fun a => Fin.ext (at_start (wholeIdx t).2.1.2.2 a _ _))
theorem block8 (t : Fin cfg0.N) : (iblk m c 8 t : Vec Ideal S2816x1024 .bf16) = m ((c : Thread nD τ).loc main_arg8) :=
  funext fun y => congrArg (m ((c : Thread nD τ).loc main_arg8)) (funext fun a => Fin.ext (at_start (wholeIdx t).2.2.1 a _ _))
theorem block9 (t : Fin cfg0.N) : (iblk m c 9 t : Vec Ideal S1x1024 .f32) = m ((c : Thread nD τ).loc main_arg9) :=
  funext fun y => congrArg (m ((c : Thread nD τ).loc main_arg9)) (funext fun a => Fin.ext (at_start (wholeIdx t).2.2.2.1 a _ _))
theorem block10 (t : Fin cfg0.N) : (iblk m c 10 t : Vec Ideal S1x1024 .f32) = m ((c : Thread nD τ).loc main_arg10) :=
  funext fun y => congrArg (m ((c : Thread nD τ).loc main_arg10)) (funext fun a => Fin.ext (at_start (wholeIdx t).2.2.2.2 a _ _))

/-! ## A point's rows are rows of the whole -/

theorem blkMixed_eq (t : Fin cfg0.N) (R : Fin 512) :
    blkMixed (iblk m c 0 t) (iblk m c 1 t) (iblk m c 2 t) (iblk m c 3 t) (iblk m c 4 t) R = (args m c).mix (bt t) (rowIn (jt t) R) := by
  rw [block2 m c t, block3 m c t, block4 m c t]
  exact congrArg₂ (fun x mo : Fin 1024 → EReal => mixed x mo (args m c).wm (args m c).g2 (args m c).b2) (funext (block0 m c t R)) (funext (block1 m c t R))

theorem blkUp_eq (t : Fin cfg0.N) (R : Fin 512) :
    blkUp (iblk m c 0 t) (iblk m c 1 t) (iblk m c 2 t) (iblk m c 3 t) (iblk m c 4 t) (iblk m c 5 t) R = (args m c).up (bt t) (rowIn (jt t) R) := by
  unfold blkUp
  rw [blkMixed_eq m c t R, block5 m c t]
  rfl

theorem blkResult_eq (t : Fin cfg0.N) (held : Fin 8 → Fin 5632 → EReal)
    (hh : ∀ (k : ℕ), k ≤ 8 → ∀ (R : Fin 512) (f : Fin 5632),
      rowBack (fun i => held i f) (fun r => (args m c).up (bt t) (rowIn (jt t) r) f) k R = before (fun t' => (args m c).up (bt t) t' f) k (rowIn (jt t) R))
    (R : Fin 512) (d : Fin 1024) :
    blkResult (iblk m c 0 t) (iblk m c 1 t) (iblk m c 2 t) (iblk m c 3 t) (iblk m c 4 t) (iblk m c 5 t) (iblk m c 6 t) (iblk m c 7 t) (iblk m c 8 t)
      (iblk m c 9 t) (iblk m c 10 t) held R d = (args m c).out (bt t) (rowIn (jt t) R) d := by
  unfold blkResult
  have hc : blkConv (iblk m c 0 t) (iblk m c 1 t) (iblk m c 2 t) (iblk m c 3 t) (iblk m c 4 t) (iblk m c 5 t) (iblk m c 6 t) (iblk m c 7 t) held R
      = (args m c).conv (bt t) (rowIn (jt t) R) := by
    funext f
    unfold blkConv
    rw [show (fun r => blkUp (iblk m c 0 t) (iblk m c 1 t) (iblk m c 2 t) (iblk m c 3 t) (iblk m c 4 t) (iblk m c 5 t) r f)
        = fun r => (args m c).up (bt t) (rowIn (jt t) r) f from funext fun r => congrFun (blkUp_eq m c t r) f,
      hh 2 (by omega) R f, hh 1 (by omega) R f, blkUp_eq m c t R, block6 m c t, block7 m c t]
    rfl
  rw [hc, blkMixed_eq m c t R, block8 m c t, block9 m c t, block10 m c t]
  rfl

/-! ## What a point leaves -/

theorem held_at (t : Fin cfg0.N) (r : Fin 8) (f : Fin 5632) :
    (outsAt0 m c t.val t.isLt).2.2 (ix2 r f) = (args m c).up (bt t) (rowIn (jt t) (lastEight r)) f := by
  by_cases h0 : t.val % 16 = 0
  · rw [outsAt0_A m c t h0]
    dsimp only
    rw [held_first]
    exact congrFun (blkUp_eq m c t (lastEight r)) f
  · rw [outsAt0_B m c t h0]
    dsimp only
    rw [held_later]
    exact congrFun (blkUp_eq m c t (lastEight r)) f

theorem tail_at (t : Fin cfg0.N) (r : Fin 8) (f : Fin 5632) :
    (outsAt0 m c t.val t.isLt).2.1 (ix4 (0 : Fin 1) (0 : Fin 1) r f) = (args m c).up (bt t) (rowIn (jt t) (lastEight r)) f := by
  by_cases h0 : t.val % 16 = 0
  · rw [outsAt0_A m c t h0]
    dsimp only
    rw [tail_first]
    exact congrFun (blkUp_eq m c t (lastEight r)) f
  · rw [outsAt0_B m c t h0]
    dsimp only
    rw [tail_later]
    exact congrFun (blkUp_eq m c t (lastEight r)) f

theorem out_at (t : Fin cfg0.N) (R : Fin 512) (d : Fin 1024) :
    (outsAt0 m c t.val t.isLt).1 (ix3 (0 : Fin 1) R d) = (args m c).out (bt t) (rowIn (jt t) R) d := by
  by_cases h0 : t.val % 16 = 0
  · rw [outsAt0_A m c t h0]
    dsimp only
    rw [out_first]
    exact (blkResult_eq m c t _ (fun k _ R f => before_first (fun t' => (args m c).up (bt t) t' f) (jt t) h0 k R) R d)
  · rw [outsAt0_B m c t h0]
    dsimp only
    rw [out_later]
    refine blkResult_eq m c t _ (fun k hk R f => ?_) R d
    have hlt : t.val - 1 < cfg0.N := Nat.lt_of_le_of_lt (Nat.sub_le _ _) t.isLt
    have hb : bt ⟨t.val - 1, hlt⟩ = bt t := Fin.ext (show (t.val - 1) / 16 = t.val / 16 by omega)
    rw [show (fun i : Fin 8 => (outsAt0 m c (t.val - 1) hlt).2.2 (ix2 i f)) = fun i => (args m c).up (bt t) (rowIn (jt ⟨t.val - 1, hlt⟩) (lastEight i)) f from
      funext fun i => (held_at m c ⟨t.val - 1, hlt⟩ i f).trans (by rw [hb])]
    exact before_later (fun t' => (args m c).up (bt t) t' f) (jt t) (jt ⟨t.val - 1, hlt⟩) (show t.val % 16 = (t.val - 1) % 16 + 1 by omega) k hk R

/-! ## The results -/

theorem flushed_out (t : Fin cfg0.N) (hf : (cfg0.win 11).flush t = true) :
    (dats m 0 c).flushed 11 t = ((cfg0.win 11).blk t).view.read (Elt Ideal) (outArr (args m c)) := by
  rw [Value.flushed11]
  have hi := (rowIdx t).2.2.1
  funext y
  have y0 : (y 0).val < 1 := (y 0).isLt
  have y1 : (y 1).val < 512 := (y 1).isLt
  have y2 : (y 2).val < 1024 := (y 2).isLt
  rw [View.read_apply]
  show (outsAt0 m c t.val t.isLt).1 ((cfg0.win 11).xinj (grid0.coords t) y) = _
  rw [show (cfg0.win 11).xinj (grid0.coords t) y = ix3 (0 : Fin 1) (⟨(y 1).val, y1⟩ : Fin 512) (⟨(y 2).val, y2⟩ : Fin 1024) from
    funext fun a => Fin.ext (match a with
      | ⟨0, _⟩ => show (y 0).val = 0 by omega
      | ⟨1, _⟩ => rfl
      | ⟨2, _⟩ => rfl), out_at m c t]
  unfold outArr
  have e0 : (((cfg0.win 11).blk t).view.emb y 0 : Fin 2) = bt t := Fin.ext (by
    show win0_11.index t 0 * 1 + 1 * (y 0).val = t.val / 16; rw [hi]; show t.val / 16 * 1 + 1 * (y 0).val = _; omega)
  have e1 : (((cfg0.win 11).blk t).view.emb y 1 : Fin 8192) = rowIn (jt t) ⟨(y 1).val, y1⟩ := Fin.ext (by
    show win0_11.index t 1 * 512 + 1 * (y 1).val = t.val % 16 * 512 + (y 1).val; rw [hi]; show t.val % 16 * 512 + 1 * (y 1).val = _; omega)
  have e2 : (((cfg0.win 11).blk t).view.emb y 2 : Fin 1024) = ⟨(y 2).val, y2⟩ := Fin.ext (by
    show win0_11.index t 2 * 1024 + 1 * (y 2).val = (y 2).val; rw [hi]; show 0 * 1024 + 1 * (y 2).val = _; omega)
  exact (congr (congrArg₂ (args m c).out e0 e1) e2).symm

theorem flushed_tail (t : Fin cfg0.N) (hf : (cfg0.win 12).flush t = true) :
    (dats m 0 c).flushed 12 t = ((cfg0.win 12).blk t).view.read (Elt Ideal) (tailArr (args m c)) := by
  rw [Value.flushed12]
  have hi := (rowIdx t).2.2.2
  funext y
  have y0 : (y 0).val < 1 := (y 0).isLt
  have y1 : (y 1).val < 1 := (y 1).isLt
  have y2 : (y 2).val < 8 := (y 2).isLt
  have y3 : (y 3).val < 5632 := (y 3).isLt
  rw [View.read_apply]
  show (outsAt0 m c t.val t.isLt).2.1 ((cfg0.win 12).xinj (grid0.coords t) y) = _
  rw [show (cfg0.win 12).xinj (grid0.coords t) y = ix4 (0 : Fin 1) (0 : Fin 1) (⟨(y 2).val, y2⟩ : Fin 8) (⟨(y 3).val, y3⟩ : Fin 5632) from
    funext fun a => Fin.ext (match a with
      | ⟨0, _⟩ => show (y 0).val = 0 by omega
      | ⟨1, _⟩ => show (y 1).val = 0 by omega
      | ⟨2, _⟩ => rfl
      | ⟨3, _⟩ => rfl), tail_at m c t]
  unfold tailArr
  have e0 : (((cfg0.win 12).blk t).view.emb y 0 : Fin 2) = bt t := Fin.ext (by
    show win0_12.index t 0 * 1 + 1 * (y 0).val = t.val / 16; rw [hi]; show t.val / 16 * 1 + 1 * (y 0).val = _; omega)
  have e1 : (((cfg0.win 12).blk t).view.emb y 1 : Fin 16) = jt t := Fin.ext (by
    show win0_12.index t 1 * 1 + 1 * (y 1).val = t.val % 16; rw [hi]; show t.val % 16 * 1 + 1 * (y 1).val = _; omega)
  have e2 : (((cfg0.win 12).blk t).view.emb y 2 : Fin 8) = ⟨(y 2).val, y2⟩ := Fin.ext (by
    show win0_12.index t 2 * 8 + 1 * (y 2).val = (y 2).val; rw [hi]; show 0 * 8 + 1 * (y 2).val = _; omega)
  have e3 : (((cfg0.win 12).blk t).view.emb y 3 : Fin 5632) = ⟨(y 3).val, y3⟩ := Fin.ext (by
    show win0_12.index t 3 * 5632 + 1 * (y 3).val = (y 3).val; rw [hi]; show 0 * 5632 + 1 * (y 3).val = _; omega)
  exact (congr (congrArg₂ (args m c).up e0 (congrArg₂ rowIn e1 (congrArg lastEight e2))) e3).symm

theorem final_out : (dats m 0 c).arrAt 11 cfg0.N = outArr (args m c) :=
  (dats m 0 c).arrAt_eq_of_cover 11 (outArr (args m c)) (flushed_out m c) fun (i : S2x8192x1024.Idx) =>
    (Value.covered_iff11 i).2 ⟨Nat.zero_le _, (i 0).isLt, Nat.zero_le _, (i 1).isLt, Nat.zero_le _, (i 2).isLt⟩

theorem final_tail : (dats m 0 c).arrAt 12 cfg0.N = tailArr (args m c) :=
  (dats m 0 c).arrAt_eq_of_cover 12 (tailArr (args m c)) (flushed_tail m c) fun (i : S2x16x8x5632.Idx) =>
    (Value.covered_iff12 i).2 ⟨Nat.zero_le _, (i 0).isLt, Nat.zero_le _, (i 1).isLt, Nat.zero_le _, (i 2).isLt, Nat.zero_le _, (i 3).isLt⟩

/-- The results of the run, and the arguments kept. -/
theorem run_value :
    θ_run (defs (F := Ideal)) (onTc (τ := τ) (main (F := Ideal))) ⟨m, fun _ => 0, ρ⟩ (fun r => ∀ c : Dev nD,
      r.2.mem ((c : Thread nD τ).loc main_v0_0) = outArr (args m c)
      ∧ r.2.mem ((c : Thread nD τ).loc main_v0_1) = tailArr (args m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)) :=
  (θ_run defs _ _).mono (fun r h c => ⟨(h c).1.trans (final_out m c), (h c).2.1.trans (final_tail m c), (h c).2.2⟩) (Value.run_blocks m ρ)

end Cert.Kernel2Ideal.Ffn

end
-- ==== Proof.FfnRef.lean ====
/-
  What the feed-forward reference returns, on the extended reals: its operations read at an index, and its two results.
-/
module

public import proofs.«01_k».proof.Proof.Gen.Reference2Ideal
public import proofs.«01_k».proof.Proof.Gen.Reference2Ideal.Run
public import proofs.«01_k».proof.Proof.FfnResult
public import Idealize.ShloMosaic.Lib.ValueIdx
public import Idealize.ShloMosaic.Lib.IdealHost
public import Idealize.ShloMosaic.Lib.Pipeline.Value

@[expose] public section

set_option maxRecDepth 16384
set_option Elab.async false

noncomputable section

namespace Cert.Reference2Ideal.Ffn

open Cert.Reference2Ideal Cert.Reference2Ideal.Gen _root_.Ffn
open Idealize.ShloMosaic hiding ix1 ix2 ix3 ix4
open Idealize.ShloMosaic.ValueIdx Idealize.ShloMosaic.TcCoe
open Idealize.SL.Sem
open Cert.Kernel2Ideal.Ffn (ofArrays outArr tailArr)
open scoped BigOperators

/-! ## The products -/

theorem mixDot_apply (X : FVec Ideal S2x8192x1024 .f32) (W : FVec Ideal S1024x1024 .f32) (b : Fin 2) (t : Fin 8192) (d : Fin 1024) :
    Host.dotGeneral dot_S2x8192x1024_S1024x1024_S2x8192x1024_2_0_01_1_n_n none X W (ix3 b t d) = ∑ e : Fin 1024, X (ix3 b t e) * W (ix2 e d) := by
  simp only [Host.dotGeneral]
  rw [Ideal.dotGeneral_apply, ← Equiv.sum_comp (contrEquiv1 dot_S2x8192x1024_S1024x1024_S2x8192x1024_2_0_01_1_n_n 1024 rfl rfl).symm]
  refine Finset.sum_congr rfl fun e _ => ?_
  have hk := contrEquiv1_symm_val dot_S2x8192x1024_S1024x1024_S2x8192x1024_2_0_01_1_n_n 1024 rfl rfl e
  refine congrArg₂ (fun a b : EReal => a * b) (congrArg X (funext fun a => Fin.ext ?_)) (congrArg W (funext fun a => Fin.ext ?_))
  · match a with
    | ⟨0, _⟩ => rfl
    | ⟨1, _⟩ => rfl
    | ⟨2, _⟩ => exact hk
  · match a with
    | ⟨0, _⟩ => exact hk
    | ⟨1, _⟩ => rfl

theorem upDot_apply (X : FVec Ideal S2x8192x1024 .f32) (W : FVec Ideal S1024x5632 .f32) (b : Fin 2) (t : Fin 8192) (f : Fin 5632) :
    Host.dotGeneral dot_S2x8192x1024_S1024x5632_S2x8192x5632_2_0_01_1_n_n none X W (ix3 b t f) = ∑ e : Fin 1024, X (ix3 b t e) * W (ix2 e f) := by
  simp only [Host.dotGeneral]
  rw [Ideal.dotGeneral_apply, ← Equiv.sum_comp (contrEquiv1 dot_S2x8192x1024_S1024x5632_S2x8192x5632_2_0_01_1_n_n 1024 rfl rfl).symm]
  refine Finset.sum_congr rfl fun e _ => ?_
  have hk := contrEquiv1_symm_val dot_S2x8192x1024_S1024x5632_S2x8192x5632_2_0_01_1_n_n 1024 rfl rfl e
  refine congrArg₂ (fun a b : EReal => a * b) (congrArg X (funext fun a => Fin.ext ?_)) (congrArg W (funext fun a => Fin.ext ?_))
  · match a with
    | ⟨0, _⟩ => rfl
    | ⟨1, _⟩ => rfl
    | ⟨2, _⟩ => exact hk
  · match a with
    | ⟨0, _⟩ => exact hk
    | ⟨1, _⟩ => rfl

theorem downDot_apply (X : FVec Ideal S2x8192x2816 .f32) (W : FVec Ideal S2816x1024 .f32) (b : Fin 2) (t : Fin 8192) (d : Fin 1024) :
    Host.dotGeneral dot_S2x8192x2816_S2816x1024_S2x8192x1024_2_0_01_1_n_n none X W (ix3 b t d) = ∑ f : Fin 2816, X (ix3 b t f) * W (ix2 f d) := by
  simp only [Host.dotGeneral]
  rw [Ideal.dotGeneral_apply, ← Equiv.sum_comp (contrEquiv1 dot_S2x8192x2816_S2816x1024_S2x8192x1024_2_0_01_1_n_n 2816 rfl rfl).symm]
  refine Finset.sum_congr rfl fun e _ => ?_
  have hk := contrEquiv1_symm_val dot_S2x8192x2816_S2816x1024_S2x8192x1024_2_0_01_1_n_n 2816 rfl rfl e
  refine congrArg₂ (fun a b : EReal => a * b) (congrArg X (funext fun a => Fin.ext ?_)) (congrArg W (funext fun a => Fin.ext ?_))
  · match a with
    | ⟨0, _⟩ => rfl
    | ⟨1, _⟩ => rfl
    | ⟨2, _⟩ => exact hk
  · match a with
    | ⟨0, _⟩ => exact hk
    | ⟨1, _⟩ => rfl

/-! ## Spreading -/

theorem spread_apply (x : FVec Ideal S2x8192x1 .f32) (b : Fin 2) (t : Fin 8192) (d : Fin 1024) :
    broadcastInDim S2x8192x1024 ![0, 1, 2] bcast_S2x8192x1_S2x8192x1024_0_1_2 x (ix3 b t d) = x (ix3 b t (0 : Fin 1)) :=
  broadcastInDim_apply _ _ _ _ _ fun a => match a with
    | ⟨0, _⟩ => rfl
    | ⟨1, _⟩ => rfl
    | ⟨2, _⟩ => rfl

/-- One row spread over all. -/
def rowsOf (g : FVec Ideal S1x1024 .f32) : FVec Ideal S2x8192x1024 .f32 :=
  broadcastInDim S2x8192x1024 ![0, 1, 2] bcast_S1x1x1024_S2x8192x1024_0_1_2 (broadcastInDim S1x1x1024 ![2] bcast_S1024_S1x1x1024_2
    (shapeCast S1024 g shapeCasts_S1x1024_S1024))

theorem rowsOf_apply (g : FVec Ideal S1x1024 .f32) (b : Fin 2) (t : Fin 8192) (d : Fin 1024) : rowsOf g (ix3 b t d) = g (ix2 (0 : Fin 1) d) := by
  refine (broadcastInDim_apply _ _ _ _ (ix3 (0 : Fin 1) (0 : Fin 1) d) fun a => ?_).trans
    ((broadcastInDim_apply _ _ _ _ (ix1 d) fun a => ?_).trans (shapeCast_apply _ _ _ (ix2 (0 : Fin 1) d) ?_))
  · match a with
    | ⟨0, _⟩ => rfl
    | ⟨1, _⟩ => rfl
    | ⟨2, _⟩ => rfl
  · match a with
    | ⟨0, _⟩ => rfl
  · rw [Shape.rowMajor_val_one, Shape.rowMajor_val_two]
    show 0 * 1024 + d.val = d.val
    omega

def wideRowsOf (g : FVec Ideal S1x5632 .f32) : FVec Ideal S2x8192x5632 .f32 :=
  broadcastInDim S2x8192x5632 ![0, 1, 2] bcast_S1x1x5632_S2x8192x5632_0_1_2 (broadcastInDim S1x1x5632 ![2] bcast_S5632_S1x1x5632_2
    (shapeCast S5632 g shapeCasts_S1x5632_S5632))

theorem wideRowsOf_apply (g : FVec Ideal S1x5632 .f32) (b : Fin 2) (t : Fin 8192) (f : Fin 5632) : wideRowsOf g (ix3 b t f) = g (ix2 (0 : Fin 1) f) := by
  refine (broadcastInDim_apply _ _ _ _ (ix3 (0 : Fin 1) (0 : Fin 1) f) fun a => ?_).trans
    ((broadcastInDim_apply _ _ _ _ (ix1 f) fun a => ?_).trans (shapeCast_apply _ _ _ (ix2 (0 : Fin 1) f) ?_))
  · match a with
    | ⟨0, _⟩ => rfl
    | ⟨1, _⟩ => rfl
    | ⟨2, _⟩ => rfl
  · match a with
    | ⟨0, _⟩ => rfl
  · rw [Shape.rowMajor_val_one, Shape.rowMajor_val_two]
    show 0 * 5632 + f.val = f.val
    omega

/-! ## The normalisation -/

theorem redu : S2x8192x1024.Reduces [2] S2x8192 := by decide

theorem lift_apply (b : Fin 2) (t : Fin 8192) (d : Fin 1024) : redu.lift (ix2 b t) d = ix3 b t d := by
  funext a; apply Fin.ext
  match a with
  | ⟨0, _⟩ => rfl
  | ⟨1, _⟩ => rfl
  | ⟨2, _⟩ => rfl

/-- The rows' means. -/
def meanArr (z : FVec Ideal S2x8192x1024 .f32) : FVec Ideal S2x8192x1 .f32 :=
  Host.divf (broadcastInDim S2x8192x1 ![0, 1] bcast_S2x8192_S2x8192x1_0_1 (Host.reduceAdd z (constant S_ .f32 0x00000000#32) reducesTo_S2x8192x1024_S2x8192_d2 h_S_))
    (broadcastInDim S2x8192x1 ![] bcast_S_S2x8192x1 (constant S_ .f32 0x44800000#32))

theorem meanArr_apply (z : FVec Ideal S2x8192x1024 .f32) (b : Fin 2) (t : Fin 8192) :
    meanArr z (ix3 b t (0 : Fin 1)) = mean (fun d => z (ix3 b t d)) := by
  unfold meanArr
  rw [hostDivf_apply]
  refine congrArg₂ (fun s w : EReal => Ideal.div s w) ?_ (broadcastInDim_scalar_apply _ _ _)
  refine (broadcastInDim_apply _ _ _ _ (ix2 b t) fun a => ?_).trans ?_
  · match a with
    | ⟨0, _⟩ => rfl
    | ⟨1, _⟩ => rfl
  · rw [hostReduceAdd_apply, Ideal.hostReduceAdd_single _ redu]
    refine (congrArg₂ (fun a b : EReal => a + b) Ideal.ofBits_zero_f32 (Finset.sum_congr rfl fun d _ => congrArg z (lift_apply b t d))).trans ?_
    exact zero_add _

def centreArr (z : FVec Ideal S2x8192x1024 .f32) : FVec Ideal S2x8192x1024 .f32 :=
  subf z (broadcastInDim S2x8192x1024 ![0, 1, 2] bcast_S2x8192x1_S2x8192x1024_0_1_2 (meanArr z))

theorem centreArr_apply (z : FVec Ideal S2x8192x1024 .f32) (b : Fin 2) (t : Fin 8192) (d : Fin 1024) :
    centreArr z (ix3 b t d) = centre (fun d => z (ix3 b t d)) d :=
  congrArg (fun s : EReal => (z (ix3 b t d) : EReal) - s) ((spread_apply (meanArr z) b t d).trans (meanArr_apply z b t))

def devArr (z : FVec Ideal S2x8192x1024 .f32) : FVec Ideal S2x8192x1 .f32 :=
  Host.rsqrt (addf (meanArr (mulf z z)) (broadcastInDim S2x8192x1 ![] bcast_S_S2x8192x1 (constant S_ .f32 0x3727C5AC#32)))

theorem devArr_apply (z : FVec Ideal S2x8192x1024 .f32) (b : Fin 2) (t : Fin 8192) :
    devArr z (ix3 b t (0 : Fin 1)) = Ideal.rsqrt (mean (fun d => z (ix3 b t d) * z (ix3 b t d)) + small) :=
  congrArg₂ (fun s e : EReal => Ideal.rsqrt (s + e)) (meanArr_apply (mulf z z) b t) (broadcastInDim_scalar_apply _ _ _)

/-- The rows normalised. -/
def normArr (z : FVec Ideal S2x8192x1024 .f32) (g b : FVec Ideal S1x1024 .f32) : FVec Ideal S2x8192x1024 .f32 :=
  addf (mulf (mulf (centreArr z) (broadcastInDim S2x8192x1024 ![0, 1, 2] bcast_S2x8192x1_S2x8192x1024_0_1_2 (devArr (centreArr z)))) (rowsOf g)) (rowsOf b)

theorem normArr_apply (z : FVec Ideal S2x8192x1024 .f32) (g b : FVec Ideal S1x1024 .f32) (i : Fin 2) (t : Fin 8192) (d : Fin 1024) :
    normArr z g b (ix3 i t d) = norm (fun d => z (ix3 i t d)) (fun d => g (ix2 (0 : Fin 1) d)) (fun d => b (ix2 (0 : Fin 1) d)) d := by
  have hs : broadcastInDim S2x8192x1024 ![0, 1, 2] bcast_S2x8192x1_S2x8192x1024_0_1_2 (devArr (centreArr z)) (ix3 i t d)
      = Ideal.rsqrt (mean (fun d => centre (fun d => z (ix3 i t d)) d * centre (fun d => z (ix3 i t d)) d) + small) := by
    refine ((spread_apply _ i t d).trans (devArr_apply _ i t)).trans ?_
    simp only [centreArr_apply]
  exact congrArg₂ (fun s e : EReal => s + e)
    (congrArg₂ (fun s e : EReal => s * e) (congrArg₂ (fun s e : EReal => s * e) (centreArr_apply z i t d) hs) (rowsOf_apply g i t d)) (rowsOf_apply b i t d)

/-! ## The block -/

/-- A residual's rows scaled and another array's added. -/
def residArr (x y : FVec Ideal S2x8192x1024 .f32) : FVec Ideal S2x8192x1024 .f32 :=
  addf (mulf (broadcastInDim S2x8192x1024 ![] bcast_S_S2x8192x1024 (constant S_ .f32 0x3FB504F3#32)) x) y

theorem residArr_apply (x y : FVec Ideal S2x8192x1024 .f32) (i : S2x8192x1024.Idx) : residArr x y i = alpha * x i + y i :=
  congrArg (fun s : EReal => s * (x i : EReal) + (y i : EReal)) (broadcastInDim_scalar_apply _ _ _)

/-- Rows widened, with two rows of zeros put before them. -/
def padArr (u : FVec Ideal S2x8192x5632 .f32) : FVec Ideal S2x8194x5632 .f32 :=
  concatenate S2x8194x5632 1 [⟨S2x2x5632, (broadcastInDim S2x2x5632 ![] bcast_S_S2x2x5632 (constant S_ .f32 0x00000000#32) : FVec Ideal S2x2x5632 .f32)⟩, ⟨S2x8192x5632, u⟩]
    concatenates_S2x2x5632_S2x8192x5632_S2x8194x5632_d1

theorem padArr_apply (u : FVec Ideal S2x8192x5632 .f32) (b : Fin 2) (t : Fin 8192) (k : ℕ) (hk : k ≤ 2) (f : Fin 5632) :
    padArr u (ix3 b (⟨2 - k + t.val, by omega⟩ : Fin 8194) f) = before (fun t => u (ix3 b t f)) k t := by
  unfold padArr before
  by_cases h : k ≤ t.val
  · rw [dif_pos h]
    refine concatenate_pair_apply_right (t := S2x8194x5632) (s₁ := S2x2x5632) (s₂ := S2x8192x5632) (1 : Fin 3) _ u _ _ rfl rfl (ix3 b (⟨t.val - k, by omega⟩ : Fin 8192) f) (fun a ha => ?_) ?_
    · match a with
      | ⟨0, _⟩ => rfl
      | ⟨1, _⟩ => exact absurd rfl ha
      | ⟨2, _⟩ => rfl
    · show t.val - k + 2 = 2 - k + t.val
      omega
  · rw [dif_neg h]
    refine (concatenate_pair_apply_left (t := S2x8194x5632) (s₁ := S2x2x5632) (s₂ := S2x8192x5632) (1 : Fin 3) _ u _ _ rfl (ix3 b (⟨2 - k + t.val, by omega⟩ : Fin 2) f) (fun a => ?_)).trans ?_
    · match a with
      | ⟨0, _⟩ => rfl
      | ⟨1, _⟩ => rfl
      | ⟨2, _⟩ => rfl
    · exact (broadcastInDim_scalar_apply _ _ _).trans Ideal.ofBits_zero_f32

/-- The convolution of the rows. -/
def convArr (u : FVec Ideal S2x8192x5632 .f32) (w : FVec Ideal S3x5632 .f32) (cb : FVec Ideal S1x5632 .f32) : FVec Ideal S2x8192x5632 .f32 :=
  addf (wideRowsOf cb) (addf (addf
    (mulf (wideRowsOf (extractStridedSlice S1x5632 ![0, 0] w slices_S3x5632_S1x5632_0_0)) (extractStridedSlice S2x8192x5632 ![0, 0, 0] (padArr u) slices_S2x8194x5632_S2x8192x5632_0_0_0))
    (mulf (wideRowsOf (extractStridedSlice S1x5632 ![1, 0] w slices_S3x5632_S1x5632_1_0)) (extractStridedSlice S2x8192x5632 ![0, 1, 0] (padArr u) slices_S2x8194x5632_S2x8192x5632_0_1_0)))
    (mulf (wideRowsOf (extractStridedSlice S1x5632 ![2, 0] w slices_S3x5632_S1x5632_2_0)) (extractStridedSlice S2x8192x5632 ![0, 2, 0] (padArr u) slices_S2x8194x5632_S2x8192x5632_0_2_0)))

/-- One tap: its row of weights, times the rows so many before. -/
theorem tap_apply (u : FVec Ideal S2x8192x5632 .f32) (w : FVec Ideal S3x5632 .f32) (p : Fin 3) (k : ℕ) (hk : p.val = 2 - k) (hk2 : k ≤ 2)
    (hw : S3x5632.Slices ![p.val, 0] S1x5632) (hu : S2x8194x5632.Slices ![0, p.val, 0] S2x8192x5632) (b : Fin 2) (t : Fin 8192) (f : Fin 5632) :
    (mulf (wideRowsOf (extractStridedSlice S1x5632 ![p.val, 0] w hw)) (extractStridedSlice S2x8192x5632 ![0, p.val, 0] (padArr u) hu) : FVec Ideal S2x8192x5632 .f32) (ix3 b t f)
      = w (ix2 p f) * before (fun t => u (ix3 b t f)) k t := by
  refine congrArg₂ (fun s e : EReal => s * e) ((wideRowsOf_apply _ b t f).trans (extractStridedSlice_apply _ _ _ _ (ix2 p f) fun a => ?_))
    ((extractStridedSlice_apply _ _ _ _ (ix3 b (⟨2 - k + t.val, by omega⟩ : Fin 8194) f) fun a => ?_).trans (padArr_apply u b t k hk2 f))
  · match a with
    | ⟨0, _⟩ => rfl
    | ⟨1, _⟩ => exact (Nat.zero_add _).symm
  · match a with
    | ⟨0, _⟩ => exact (Nat.zero_add _).symm
    | ⟨1, _⟩ => exact congrArg (· + t.val) hk.symm
    | ⟨2, _⟩ => exact (Nat.zero_add _).symm

theorem convArr_apply (u : FVec Ideal S2x8192x5632 .f32) (w : FVec Ideal S3x5632 .f32) (cb : FVec Ideal S1x5632 .f32) (b : Fin 2) (t : Fin 8192) (f : Fin 5632) :
    convArr u w cb (ix3 b t f) = taps (fun k => w (ix2 k f)) (cb (ix2 (0 : Fin 1) f)) (before (fun t => u (ix3 b t f)) 2 t) (before (fun t => u (ix3 b t f)) 1 t) (u (ix3 b t f)) :=
  congrArg₂ (fun s e : EReal => s + e) (wideRowsOf_apply cb b t f)
    (congrArg₂ (fun s e : EReal => s + e)
      (congrArg₂ (fun s e : EReal => s + e) (tap_apply u w 0 2 rfl (by omega) slices_S3x5632_S1x5632_0_0 slices_S2x8194x5632_S2x8192x5632_0_0_0 b t f)
        (tap_apply u w 1 1 rfl (by omega) slices_S3x5632_S1x5632_1_0 slices_S2x8194x5632_S2x8192x5632_0_1_0 b t f))
      (tap_apply u w 2 0 rfl (by omega) slices_S3x5632_S1x5632_2_0 slices_S2x8194x5632_S2x8192x5632_0_2_0 b t f))

/-- The gate columns against the value columns. -/
def gateArr (v : FVec Ideal S2x8192x5632 .f32) : FVec Ideal S2x8192x2816 .f32 := extractStridedSlice S2x8192x2816 ![0, 0, 2816] v slices_S2x8192x5632_S2x8192x2816_0_0_2816
def oneArr : FVec Ideal S2x8192x2816 .f32 := broadcastInDim S2x8192x2816 ![] bcast_S_S2x8192x2816 (constant S_ .f32 0x3F800000#32)
def gatedArr (v : FVec Ideal S2x8192x5632 .f32) : FVec Ideal S2x8192x2816 .f32 :=
  mulf (mulf (gateArr v) (Host.divf oneArr (addf oneArr (Host.exp (Host.negf (gateArr v)))))) (extractStridedSlice S2x8192x2816 ![0, 0, 0] v slices_S2x8192x5632_S2x8192x2816_0_0_0)

theorem gatedArr_apply (v : FVec Ideal S2x8192x5632 .f32) (b : Fin 2) (t : Fin 8192) (f : Fin 2816) :
    gatedArr v (ix3 b t f) = gated (v (ix3 b t (gateCol f))) (v (ix3 b t (valCol f))) := by
  have hg : gateArr v (ix3 b t f) = v (ix3 b t (gateCol f)) := extractStridedSlice_apply _ _ _ _ _ fun a => match a with
    | ⟨0, _⟩ => (Nat.zero_add _).symm
    | ⟨1, _⟩ => (Nat.zero_add _).symm
    | ⟨2, _⟩ => rfl
  have hv : extractStridedSlice S2x8192x2816 ![0, 0, 0] v slices_S2x8192x5632_S2x8192x2816_0_0_0 (ix3 b t f) = v (ix3 b t (valCol f)) :=
    extractStridedSlice_apply _ _ _ _ _ fun a => match a with
      | ⟨0, _⟩ => (Nat.zero_add _).symm
      | ⟨1, _⟩ => (Nat.zero_add _).symm
      | ⟨2, _⟩ => (Nat.zero_add _).symm
  have ho : (oneArr (ix3 b t f) : EReal) = 1 := (broadcastInDim_scalar_apply _ _ _).trans Ideal.ofBits_one_f32
  refine (show gatedArr v (ix3 b t f) = (gateArr v (ix3 b t f) : EReal)
      * Ideal.div (oneArr (ix3 b t f)) ((oneArr (ix3 b t f) : EReal) + Ideal.exp (-(gateArr v (ix3 b t f) : EReal)))
      * extractStridedSlice S2x8192x2816 ![0, 0, 0] v slices_S2x8192x5632_S2x8192x2816_0_0_0 (ix3 b t f) from rfl).trans ?_
  rw [ho, hg, hv]
  rfl

section Whole
variable (a0 a1 : FVec Ideal S2x8192x1024 .f32) (a2 : FVec Ideal S1024x1024 .bf16) (a3 a4 : FVec Ideal S1x1024 .f32) (a5 : FVec Ideal S1024x5632 .bf16)
  (a6 : FVec Ideal S3x5632 .f32) (a7 : FVec Ideal S1x5632 .f32) (a8 : FVec Ideal S2816x1024 .bf16) (a9 a10 : FVec Ideal S1x1024 .f32)

def mixArr : FVec Ideal S2x8192x1024 .f32 :=
  normArr (residArr a0 (Host.dotGeneral dot_S2x8192x1024_S1024x1024_S2x8192x1024_2_0_01_1_n_n none a1 (extf .f32 a2 bitsLt_bf16_f32))) a3 a4
def upArr : FVec Ideal S2x8192x5632 .f32 :=
  Host.dotGeneral dot_S2x8192x1024_S1024x5632_S2x8192x5632_2_0_01_1_n_n none (mixArr a0 a1 a2 a3 a4) (extf .f32 a5 bitsLt_bf16_f32)
def refOut : FVec Ideal S2x8192x1024 .f32 :=
  normArr (residArr (mixArr a0 a1 a2 a3 a4) (Host.dotGeneral dot_S2x8192x2816_S2816x1024_S2x8192x1024_2_0_01_1_n_n none
    (gatedArr (convArr (upArr a0 a1 a2 a3 a4 a5) a6 a7)) (extf .f32 a8 bitsLt_bf16_f32))) a9 a10
def refTail : FVec Ideal S2x16x8x5632 .f32 :=
  extractStridedSlice S2x16x8x5632 ![0, 0, 504, 0] (shapeCast S2x16x512x5632 (upArr a0 a1 a2 a3 a4 a5) shapeCasts_S2x8192x5632_S2x16x512x5632) slices_S2x16x512x5632_S2x16x8x5632_0_0_504_0

theorem mixArr_apply (b : Fin 2) (t : Fin 8192) (d : Fin 1024) : mixArr a0 a1 a2 a3 a4 (ix3 b t d) = (ofArrays a0 a1 a2 a3 a4 a5 a6 a7 a8 a9 a10).mix b t d := by
  refine (normArr_apply _ a3 a4 b t d).trans ?_
  refine congrArg (fun z : Fin 1024 → EReal => norm z (fun d => a3 (ix2 (0 : Fin 1) d)) (fun d => a4 (ix2 (0 : Fin 1) d)) d) (funext fun d => ?_)
  exact (residArr_apply _ _ _).trans (congrArg (fun s : EReal => alpha * (a0 (ix3 b t d) : EReal) + s) (mixDot_apply a1 _ b t d))

theorem upArr_apply (b : Fin 2) (t : Fin 8192) (f : Fin 5632) : upArr a0 a1 a2 a3 a4 a5 (ix3 b t f) = (ofArrays a0 a1 a2 a3 a4 a5 a6 a7 a8 a9 a10).up b t f :=
  (upDot_apply _ _ b t f).trans (Finset.sum_congr rfl fun e _ =>
    congrArg (fun s : EReal => s * (a5 (ix2 e f) : EReal)) (mixArr_apply a0 a1 a2 a3 a4 a5 a6 a7 a8 a9 a10 b t e))

theorem conv_apply (b : Fin 2) (t : Fin 8192) (f : Fin 5632) :
    convArr (upArr a0 a1 a2 a3 a4 a5) a6 a7 (ix3 b t f) = (ofArrays a0 a1 a2 a3 a4 a5 a6 a7 a8 a9 a10).conv b t f := by
  refine (convArr_apply _ a6 a7 b t f).trans ?_
  simp only [upArr_apply a0 a1 a2 a3 a4 a5 a6 a7 a8 a9 a10]
  rfl

theorem refOut_eq : refOut a0 a1 a2 a3 a4 a5 a6 a7 a8 a9 a10 = outArr (ofArrays a0 a1 a2 a3 a4 a5 a6 a7 a8 a9 a10) := by
  funext y
  have h0 : (y 0).val < 2 := (y 0).isLt
  have h1 : (y 1).val < 8192 := (y 1).isLt
  have h2 : (y 2).val < 1024 := (y 2).isLt
  obtain ⟨b, t, d, rfl⟩ : ∃ (b : Fin 2) (t : Fin 8192) (d : Fin 1024), y = ix3 b t d :=
    ⟨⟨(y 0).val, h0⟩, ⟨(y 1).val, h1⟩, ⟨(y 2).val, h2⟩, funext fun a => Fin.ext (match a with
      | ⟨0, _⟩ => rfl
      | ⟨1, _⟩ => rfl
      | ⟨2, _⟩ => rfl)⟩
  refine (normArr_apply _ a9 a10 b t d).trans ?_
  refine congrArg (fun z : Fin 1024 → EReal => norm z (fun d => a9 (ix2 (0 : Fin 1) d)) (fun d => a10 (ix2 (0 : Fin 1) d)) d) (funext fun d => ?_)
  refine (residArr_apply _ _ _).trans (congrArg₂ (fun s e : EReal => alpha * s + e) (mixArr_apply a0 a1 a2 a3 a4 a5 a6 a7 a8 a9 a10 b t d) ?_)
  refine (downDot_apply _ _ b t d).trans (Finset.sum_congr rfl fun f _ => congrArg (fun s : EReal => s * (a8 (ix2 f d) : EReal)) ?_)
  refine (gatedArr_apply _ b t f).trans ?_
  exact congrArg₂ gated (conv_apply a0 a1 a2 a3 a4 a5 a6 a7 a8 a9 a10 b t (gateCol f)) (conv_apply a0 a1 a2 a3 a4 a5 a6 a7 a8 a9 a10 b t (valCol f))

theorem refTail_eq : refTail a0 a1 a2 a3 a4 a5 = tailArr (ofArrays a0 a1 a2 a3 a4 a5 a6 a7 a8 a9 a10) := by
  funext y
  have h0 : (y 0).val < 2 := (y 0).isLt
  have h1 : (y 1).val < 16 := (y 1).isLt
  have h2 : (y 2).val < 8 := (y 2).isLt
  have h3 : (y 3).val < 5632 := (y 3).isLt
  obtain ⟨b, j, r, f, rfl⟩ : ∃ (b : Fin 2) (j : Fin 16) (r : Fin 8) (f : Fin 5632), y = ix4 b j r f :=
    ⟨⟨(y 0).val, h0⟩, ⟨(y 1).val, h1⟩, ⟨(y 2).val, h2⟩, ⟨(y 3).val, h3⟩, funext fun a => Fin.ext (match a with
      | ⟨0, _⟩ => rfl
      | ⟨1, _⟩ => rfl
      | ⟨2, _⟩ => rfl
      | ⟨3, _⟩ => rfl)⟩
  refine (extractStridedSlice_apply _ _ _ _ (ix4 b j (lastEight r) f) fun a => ?_).trans
    ((shapeCast_apply _ _ _ (ix3 b (rowIn j (lastEight r)) f) ?_).trans (upArr_apply a0 a1 a2 a3 a4 a5 a6 a7 a8 a9 a10 b _ f))
  · match a with
    | ⟨0, _⟩ => exact (Nat.zero_add _).symm
    | ⟨1, _⟩ => exact (Nat.zero_add _).symm
    | ⟨2, _⟩ => rfl
    | ⟨3, _⟩ => exact (Nat.zero_add _).symm
  · rw [Shape.rowMajor_val_three, Shape.rowMajor_val_four]
    show (b.val * 8192 + (j.val * 512 + (504 + r.val))) * 5632 + f.val = ((b.val * 16 + j.val) * 512 + (504 + r.val)) * 5632 + f.val
    omega

end Whole

/-- The arguments, as the reference holds them. -/
def args (m : (ℓ : Loc nD τ sig) → Buf (Elt Ideal) ℓ) (c : Dev nD) : Args :=
  ofArrays (m ((c.tc : Thread nD τ).loc main_arg0)) (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6)) (m ((c.tc : Thread nD τ).loc main_arg7))
    (m ((c.tc : Thread nD τ).loc main_arg8)) (m ((c.tc : Thread nD τ).loc main_arg9)) (m ((c.tc : Thread nD τ).loc main_arg10))

/-- The reference's run, read. -/
theorem run_value (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v93) = outArr (args m c)
      ∧ r.2.mem ((c.tc : Thread nD τ).loc main_v95) = tailArr (args m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c).1.trans (refOut_eq ..), (h c).2.1.trans (refTail_eq ..), (h c).2.2⟩) (Cert.Reference2Ideal.Value.run (F := Ideal) m ρ)

end Cert.Reference2Ideal.Ffn

end
-- ==== Proof.lean ====
/-
  The proof of the certificate: the frames of the kernel, of the kernel read at exact arithmetic and of the reference,
  and the equality of their results.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Kernel2
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Run
public import proofs.«01_k».proof.Proof.Result
public import proofs.«01_k».proof.Proof.RefValue
public import proofs.«01_k».proof.Proof.Finite
public import proofs.«01_k».proof.Proof.FfnResult
public import proofs.«01_k».proof.Proof.FfnRef
public import proofs.«01_k».proof.Proof.Gen.Pre_finite
public import Idealize.ShloMosaic.Adequacy
public import Idealize.ShloMosaic.Init
public import Idealize.ShloMosaic.Lib.Quiescent

@[expose] public section

noncomputable section

namespace Cert.Proof

open Idealize.ShloMosaic Idealize.SL.Sem Idealize.ShloMosaic.Tactic

theorem kernel_frame : Cert.quiescent_Kernel (hKernel := Cert.Kernel.Gen.facts) :=
  fun m g _ => by
    have h := Cert.KernelIdeal.Mla.frame (F := Bits) m g
    refine cast ?_ h
    sl_kernel_rfl

theorem kernelIdeal_frame : Cert.quiescent_KernelIdeal (hKernelIdeal := Cert.KernelIdeal.Gen.facts) :=
  fun m g _ => Cert.KernelIdeal.Mla.frame (F := Ideal) m g

theorem reference_frame : Cert.quiescent_ReferenceIdeal (hReferenceIdeal := Cert.ReferenceIdeal.Gen.facts) :=
  fun m g _ => (θ_run Cert.ReferenceIdeal.defs _ _).mono
    (fun r h => ⟨fun c => ⟨(h c).2.1, (h c).2.2⟩, sem_eq_zero_of_no_sems (by decide) r.2⟩) (Cert.ReferenceIdeal.Value.run (F := Ideal) m g)

/-- Both programs return the softmax-weighted means of the values, `attnArr`. -/
theorem same_result : Cert.algebraic_KernelIdeal_ReferenceIdeal_pre_finite (hKernelIdeal := Cert.KernelIdeal.Gen.facts)
    (hReferenceIdeal := Cert.ReferenceIdeal.Gen.facts) (hPre_finite := Cert.Pre_finite.Gen.facts) :=
  fun m g m' g' hpre hargs => by
    have hR := fun c => Cert.Pre_finite.Mla.decode _ _ (hpre c)
    refine ⟨fun c => Cert.KernelIdeal.Mla.attnArr (Cert.KernelIdeal.Mla.argQ m c) (Cert.KernelIdeal.Mla.argK m c),
      Cert.KernelIdeal.Mla.run_value m g hR, ?_⟩
    refine (θ_run Cert.ReferenceIdeal.defs _ _).mono (fun r h c => ⟨(h c).1.trans ?_, (h c).2⟩) (Cert.ReferenceIdeal.Mla.run_value m' g')
    rw [(hargs c).1, (hargs c).2]
    exact Cert.ReferenceIdeal.Mla.refArr_eq _ _ (hR c).1 (hR c).2

theorem kernel2_frame : Cert.quiescent_Kernel2 (hKernel2 := Cert.Kernel2.Gen.facts) :=
  fun m g _ => by
    have h := Cert.Kernel2Ideal.Gen.frame (F := Bits) m g
    refine cast ?_ h
    sl_kernel_rfl

theorem kernel2Ideal_frame : Cert.quiescent_Kernel2Ideal (hKernel2Ideal := Cert.Kernel2Ideal.Gen.facts) :=
  fun m g _ => Cert.Kernel2Ideal.Gen.frame (F := Ideal) m g

theorem reference2_frame : Cert.quiescent_Reference2Ideal (hReference2Ideal := Cert.Reference2Ideal.Gen.facts) :=
  fun m g _ => (θ_run Cert.Reference2Ideal.defs _ _).mono
    (fun r h => ⟨fun c => (h c).2.2, sem_eq_zero_of_no_sems (by decide) r.2⟩) (Cert.Reference2Ideal.Value.run (F := Ideal) m g)

/-- Both programs return the feed-forward block's result and the last eight widened rows of every 512. -/
theorem same_result2 : Cert.algebraic_Kernel2Ideal_Reference2Ideal (hKernel2Ideal := Cert.Kernel2Ideal.Gen.facts)
    (hReference2Ideal := Cert.Reference2Ideal.Gen.facts) :=
  fun m g m' g' _ hargs => by
    have ha : ∀ c, Cert.Reference2Ideal.Ffn.args m' c = Cert.Kernel2Ideal.Ffn.args m c := fun c => by
      obtain ⟨h0, h1, h2, h3, h4, h5, h6, h7, h8, h9, h10⟩ := hargs c
      unfold Cert.Reference2Ideal.Ffn.args
      rw [h0, h1, h2, h3, h4, h5, h6, h7, h8, h9, h10]
      rfl
    refine ⟨fun c => Cert.Kernel2Ideal.Ffn.outArr (Cert.Kernel2Ideal.Ffn.args m c), fun c => Cert.Kernel2Ideal.Ffn.tailArr (Cert.Kernel2Ideal.Ffn.args m c),
      Cert.Kernel2Ideal.Ffn.run_value m g, ?_⟩
    exact (θ_run Cert.Reference2Ideal.defs _ _).mono
      (fun r h c => ⟨(h c).1.trans (congrArg Cert.Kernel2Ideal.Ffn.outArr (ha c)), (h c).2.1.trans (congrArg Cert.Kernel2Ideal.Ffn.tailArr (ha c)), (h c).2.2⟩)
      (Cert.Reference2Ideal.Ffn.run_value m' g')

theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, Cert.Pre_finite.Gen.facts,
  kernel_frame, kernelIdeal_frame, fun m g _ => kernelIdeal_frame m g trivial, reference_frame, fun m g _ => reference_frame m g trivial,
  kernel2_frame, kernel2Ideal_frame, reference2_frame, trivial, same_result, trivial, same_result2⟩

end Cert.Proof

end
